-- ==== Defs.lean ====
def Pre_Kernel [hPre_in_tables : Cert.Pre_in_tables.Facts] (m : (ℓ : Loc Cert.Kernel.nD Cert.Kernel.τ Cert.Kernel.sig) → Buf (Elt Bits) ℓ) : Prop :=
  ∀ c : Dev Cert.Kernel.nD,
    (Cert.Pre_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_tables : Cert.Pre_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel) (hPre_in_tables := hPre_in_tables)
    ∧ quiescent_KernelIdeal (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal (hKernelIdeal := hKernelIdeal) (hReferenceIdeal := hReferenceIdeal) (hPre_in_tables := hPre_in_tables)
-- ==== Pre_in_tables.lean ====
abbrev S16384 : Shape := ⟨1, ![16384]⟩
abbrev S100000x128 : Shape := ⟨2, ![100000, 128]⟩
abbrev S1x128 : Shape := ⟨2, ![1, 128]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S1x128 .f32) (main_arg5 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S100000x128 : Shape := ⟨2, ![100000, 128]⟩
abbrev S1x128 : Shape := ⟨2, ![1, 128]⟩
abbrev S1 : Shape := ⟨1, ![1]⟩
abbrev S128 : Shape := ⟨1, ![128]⟩
abbrev S512 : Shape := ⟨1, ![512]⟩
abbrev S128x128 : Shape := ⟨2, ![128, 128]⟩
abbrev S17 : Shape := ⟨1, ![17]⟩
abbrev S16 : Shape := ⟨1, ![16]⟩
abbrev S_ : Shape := ⟨0, ![]⟩
abbrev S64x128 : Shape := ⟨2, ![64, 128]⟩
abbrev S64 : Shape := ⟨1, ![64]⟩
abbrev S1x16 : Shape := ⟨2, ![1, 16]⟩
abbrev S16384x1 : Shape := ⟨2, ![16384, 1]⟩

abbrev nBuf : Table → Nat
  | .hbm => 9
  | .local .scVector .vmem => 11
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S1x128, .f32⟩
  | .hbm, ⟨5, _⟩ => ⟨S1, .f32⟩
  | .hbm, ⟨6, _⟩ => ⟨S128, .f32⟩
  | .hbm, ⟨7, _⟩ => ⟨S16384, .f32⟩
  | .hbm, ⟨8, _⟩ => ⟨S16384x1, .f32⟩
  | .local .scVector .vmem, ⟨0, _⟩ => ⟨S512, .i32⟩
  | .local .scVector .vmem, ⟨1, _⟩ => ⟨S512, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128, .f32⟩
  | .local .scVector .vmem, ⟨7, _⟩ => ⟨S17, .f32⟩
  | .local .scVector .vmem, ⟨8, _⟩ => ⟨S512, .f32⟩
  | .local .scVector .vmem, ⟨9, _⟩ => ⟨S512, .f32⟩
  | .local .scVector .vmem, ⟨10, _⟩ => ⟨S16, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 6, rfl⟩
abbrev main_arg5_scv : Ref sig .scVector := ⟨.hbm, 5, rfl⟩
abbrev main_v1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_80 : BitVec 32 := 0#32
  let c32_i32 : BitVec 32 := 32#32
  let v132 : BitVec 32 := Scalar.addi c0_i32_80 c32_i32
  let c1_i32_81 : BitVec 32 := 1#32
  ⟨c0_i32_80, v132, c1_i32_81⟩
def k0_off2 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v201 : Index := Scalar.indexCast v200
  let c0_215 : Index := 0#32
  ![v201.toNat, 0]
def k0_off3 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v210 : Index := Scalar.indexCast v200
  let c16_217 : Index := 16#32
  ![v210.toNat, 16]
def k0_off4 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v219 : Index := Scalar.indexCast v200
  let c32_219 : Index := 32#32
  ![v219.toNat, 32]
def k0_off5 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v228 : Index := Scalar.indexCast v200
  let c48_221 : Index := 48#32
  ![v228.toNat, 48]
def k0_off6 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v237 : Index := Scalar.indexCast v200
  let c64_223 : Index := 64#32
  ![v237.toNat, 64]
def k0_off7 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v246 : Index := Scalar.indexCast v200
  let c80_225 : Index := 80#32
  ![v246.toNat, 80]
def k0_off8 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v255 : Index := Scalar.indexCast v200
  let c96_227 : Index := 96#32
  ![v255.toNat, 96]
def k0_off9 (k0_t1 : Fin k0_t1_loop.trips) : Fin 2 → Nat :=
  let c4_i32_214 : BitVec 32 := 4#32
  let c0_i32_80 : BitVec 32 := 0#32
  let c1_i32_81 : BitVec 32 := 1#32
  let arg25 : BitVec 32 := Scf.iv c0_i32_80 c1_i32_81 k0_t1
  let v200 : BitVec 32 := Scalar.muli c4_i32_214 arg25
  let v264 : Index := Scalar.indexCast v200
  let c112_229 : Index := 112#32
  ![v264.toNat, 112]
def k0_off10 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v275 : Index := Scalar.indexCast v274
  let c0_233 : Index := 0#32
  ![v275.toNat, 0]
def k0_off11 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v284 : Index := Scalar.indexCast v274
  let c16_235 : Index := 16#32
  ![v284.toNat, 16]
def k0_off12 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v293 : Index := Scalar.indexCast v274
  let c32_237 : Index := 32#32
  ![v293.toNat, 32]
def k0_off13 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v302 : Index := Scalar.indexCast v274
  let c48_239 : Index := 48#32
  ![v302.toNat, 48]
def k0_off14 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v311 : Index := Scalar.indexCast v274
  let c64_241 : Index := 64#32
  ![v311.toNat, 64]
def k0_off15 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v320 : Index := Scalar.indexCast v274
  let c80_243 : Index := 80#32
  ![v320.toNat, 80]
def k0_off16 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v329 : Index := Scalar.indexCast v274
  let c96_245 : Index := 96#32
  ![v329.toNat, 96]
def k0_off17 (k0_t1 : Fin k0_t1_loop.trips) (c1_i32_232 : BitVec 32) : Fin 2 → Nat :=
  let c4_i32_231 : BitVec 32 := 4#32
  let c0_i32_80 : BitVec 32 := 0#32
  let c1_i32_81 : BitVec 32 := 1#32
  let arg25 : BitVec 32 := Scf.iv c0_i32_80 c1_i32_81 k0_t1
  let v273 : BitVec 32 := Scalar.muli c4_i32_231 arg25
  let v274 : BitVec 32 := Scalar.addi v273 c1_i32_232
  let v338 : Index := Scalar.indexCast v274
  let c112_247 : Index := 112#32
  ![v338.toNat, 112]
def k0_off18 (k0_t1 : Fin k0_t1_loop.trips) : Fin 1 → Nat :=
  let c0_i32_80 : BitVec 32 := 0#32
  let c1_i32_81 : BitVec 32 := 1#32
  let arg25 : BitVec 32 := Scf.iv c0_i32_80 c1_i32_81 k0_t1
  let c16_i32 : BitVec 32 := 16#32
  let v533 : BitVec 32 := Scalar.muli arg25 c16_i32
  let v534 : Index := Scalar.indexCast v533
  ![v534.toNat]
@[reducible] def k0_t2_loop : Scf.Loop 32 :=
  let c0_i32_84 : BitVec 32 := 0#32
  let c8_i32_85 : BitVec 32 := 8#32
  let v133 : BitVec 32 := Scalar.addi c0_i32_84 c8_i32_85
  let c1_i32_86 : BitVec 32 := 1#32
  ⟨c0_i32_84, v133, c1_i32_86⟩
def k0_off19 (k0_t2 : Fin k0_t2_loop.trips) : Fin 1 → Nat :=
  let c4_i32_214 : BitVec 32 := 4#32
  let c0_i32_84 : BitVec 32 := 0#32
  let c1_i32_86 : BitVec 32 := 1#32
  let arg25 : BitVec 32 := Scf.iv c0_i32_84 c1_i32_86 k0_t2
  let v200 : BitVec 32 := Scalar.muli c4_i32_214 arg25
  let c16_i32 : BitVec 32 := 16#32
  let v201 : BitVec 32 := Scalar.muli v200 c16_i32
  let v202 : Index := Scalar.indexCast v201
  ![v202.toNat]
def k0_off20 (k0_t2 : Fin k0_t2_loop.trips) (c1_i32_216 : BitVec 32) : Fin 1 → Nat :=
  let c4_i32_215 : BitVec 32 := 4#32
  let c0_i32_84 : BitVec 32 := 0#32
  let c1_i32_86 : BitVec 32 := 1#32
  let arg25 : BitVec 32 := Scf.iv c0_i32_84 c1_i32_86 k0_t2
  let v205 : BitVec 32 := Scalar.muli c4_i32_215 arg25
  let v206 : BitVec 32 := Scalar.addi v205 c1_i32_216
  let c16_i32_217 : BitVec 32 := 16#32
  let v207 : BitVec 32 := Scalar.muli v206 c16_i32_217
  let v208 : Index := Scalar.indexCast v207
  ![v208.toNat]
def k0_off21 (k0_t2 : Fin k0_t2_loop.trips) : Fin 1 → Nat :=
  let c0_i32_228 : BitVec 32 := 0#32
  let c0_i32_84 : BitVec 32 := 0#32
  let c1_i32_86 : BitVec 32 := 1#32
  let arg25 : BitVec 32 := Scf.iv c0_i32_84 c1_i32_86 k0_t2
  let c16_i32_227 : BitVec 32 := 16#32
  let v240 : BitVec 32 := Scalar.muli arg25 c16_i32_227
  let v241 : BitVec 32 := Scalar.addi c0_i32_228 v240
  let v242 : Index := Scalar.indexCast v241
  ![v242.toNat]
@[reducible] def k0_t3_loop : Scf.Loop 32 :=
  let c0_i32_127 : BitVec 32 := 0#32
  let c32_i32_128 : BitVec 32 := 32#32
  let v158 : BitVec 32 := Scalar.addi c0_i32_127 c32_i32_128
  let c1_i32_129 : BitVec 32 := 1#32
  ⟨c0_i32_127, v158, c1_i32_129⟩
def k0_off22 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v201 : Index := Scalar.indexCast v200
  let c0_215 : Index := 0#32
  ![v201.toNat, 0]
def k0_off23 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v210 : Index := Scalar.indexCast v200
  let c16_217 : Index := 16#32
  ![v210.toNat, 16]
def k0_off24 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v219 : Index := Scalar.indexCast v200
  let c32_219 : Index := 32#32
  ![v219.toNat, 32]
def k0_off25 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v228 : Index := Scalar.indexCast v200
  let c48_221 : Index := 48#32
  ![v228.toNat, 48]
def k0_off26 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v237 : Index := Scalar.indexCast v200
  let c64_223 : Index := 64#32
  ![v237.toNat, 64]
def k0_off27 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v246 : Index := Scalar.indexCast v200
  let c80_225 : Index := 80#32
  ![v246.toNat, 80]
def k0_off28 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v255 : Index := Scalar.indexCast v200
  let c96_227 : Index := 96#32
  ![v255.toNat, 96]
def k0_off29 (k0_t3 : Fin k0_t3_loop.trips) : Fin 2 → Nat :=
  let c4_i32_214 : BitVec 32 := 4#32
  let c0_i32_127 : BitVec 32 := 0#32
  let c1_i32_129 : BitVec 32 := 1#32
  let arg25 : BitVec 32 := Scf.iv c0_i32_127 c1_i32_129 k0_t3
  let v200 : BitVec 32 := Scalar.muli c4_i32_214 arg25
  let v264 : Index := Scalar.indexCast v200
  let c112_229 : Index := 112#32
  ![v264.toNat, 112]
def k0_off30 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v275 : Index := Scalar.indexCast v274
  let c0_233 : Index := 0#32
  ![v275.toNat, 0]
def k0_off31 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v284 : Index := Scalar.indexCast v274
  let c16_235 : Index := 16#32
  ![v284.toNat, 16]
def k0_off32 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v293 : Index := Scalar.indexCast v274
  let c32_237 : Index := 32#32
  ![v293.toNat, 32]
def k0_off33 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v302 : Index := Scalar.indexCast v274
  let c48_239 : Index := 48#32
  ![v302.toNat, 48]
def k0_off34 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v311 : Index := Scalar.indexCast v274
  let c64_241 : Index := 64#32
  ![v311.toNat, 64]
def k0_off35 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v320 : Index := Scalar.indexCast v274
  let c80_243 : Index := 80#32
  ![v320.toNat, 80]
def k0_off36 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v329 : Index := Scalar.indexCast v274
  let c96_245 : Index := 96#32
  ![v329.toNat, 96]
def k0_off37 (k0_t3 : Fin k0_t3_loop.trips) (c1_i32_232 : BitVec 32) : Fin 2 → Nat :=
  let c4_i32_231 : BitVec 32 := 4#32
  let c0_i32_127 : BitVec 32 := 0#32
  let c1_i32_129 : BitVec 32 := 1#32
  let arg25 : BitVec 32 := Scf.iv c0_i32_127 c1_i32_129 k0_t3
  let v273 : BitVec 32 := Scalar.muli c4_i32_231 arg25
  let v274 : BitVec 32 := Scalar.addi v273 c1_i32_232
  let v338 : Index := Scalar.indexCast v274
  let c112_247 : Index := 112#32
  ![v338.toNat, 112]
def k0_off38 (k0_t3 : Fin k0_t3_loop.trips) : Fin 1 → Nat :=
  let c0_i32_127 : BitVec 32 := 0#32
  let c1_i32_129 : BitVec 32 := 1#32
  let arg25 : BitVec 32 := Scf.iv c0_i32_127 c1_i32_129 k0_t3
  let c16_i32 : BitVec 32 := 16#32
  let v533 : BitVec 32 := Scalar.muli arg25 c16_i32
  let v534 : Index := Scalar.indexCast v533
  ![v534.toNat]
@[reducible] def k0_t4_loop : Scf.Loop 32 :=
  let c0_i32_132 : BitVec 32 := 0#32
  let c8_i32_133 : BitVec 32 := 8#32
  let v159 : BitVec 32 := Scalar.addi c0_i32_132 c8_i32_133
  let c1_i32_134 : BitVec 32 := 1#32
  ⟨c0_i32_132, v159, c1_i32_134⟩
def k0_off39 (k0_t4 : Fin k0_t4_loop.trips) : Fin 1 → Nat :=
  let c4_i32_214 : BitVec 32 := 4#32
  let c0_i32_132 : BitVec 32 := 0#32
  let c1_i32_134 : BitVec 32 := 1#32
  let arg25 : BitVec 32 := Scf.iv c0_i32_132 c1_i32_134 k0_t4
  let v200 : BitVec 32 := Scalar.muli c4_i32_214 arg25
  let c16_i32 : BitVec 32 := 16#32
  let v201 : BitVec 32 := Scalar.muli v200 c16_i32
  let v202 : Index := Scalar.indexCast v201
  ![v202.toNat]
def k0_off40 (k0_t4 : Fin k0_t4_loop.trips) (c1_i32_216 : BitVec 32) : Fin 1 → Nat :=
  let c4_i32_215 : BitVec 32 := 4#32
  let c0_i32_132 : BitVec 32 := 0#32
  let c1_i32_134 : BitVec 32 := 1#32
  let arg25 : BitVec 32 := Scf.iv c0_i32_132 c1_i32_134 k0_t4
  let v205 : BitVec 32 := Scalar.muli c4_i32_215 arg25
  let v206 : BitVec 32 := Scalar.addi v205 c1_i32_216
  let c16_i32_217 : BitVec 32 := 16#32
  let v207 : BitVec 32 := Scalar.muli v206 c16_i32_217
  let v208 : Index := Scalar.indexCast v207
  ![v208.toNat]
def k0_off41 (k0_t4 : Fin k0_t4_loop.trips) : Fin 1 → Nat :=
  let c128_i32_228 : BitVec 32 := 128#32
  let c0_i32_132 : BitVec 32 := 0#32
  let c1_i32_134 : BitVec 32 := 1#32
  let arg25 : BitVec 32 := Scf.iv c0_i32_132 c1_i32_134 k0_t4
  let c16_i32_227 : BitVec 32 := 16#32
  let v240 : BitVec 32 := Scalar.muli arg25 c16_i32_227
  let v241 : BitVec 32 := Scalar.addi c128_i32_228 v240
  let v242 : Index := Scalar.indexCast v241
  ![v242.toNat]
@[reducible] def k0_t5_loop : Scf.Loop 32 :=
  let c0_i32_175 : BitVec 32 := 0#32
  let c32_i32_176 : BitVec 32 := 32#32
  let v184 : BitVec 32 := Scalar.addi c0_i32_175 c32_i32_176
  let c1_i32_177 : BitVec 32 := 1#32
  ⟨c0_i32_175, v184, c1_i32_177⟩
def k0_off42 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v201 : Index := Scalar.indexCast v200
  let c0_215 : Index := 0#32
  ![v201.toNat, 0]
def k0_off43 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v210 : Index := Scalar.indexCast v200
  let c16_217 : Index := 16#32
  ![v210.toNat, 16]
def k0_off44 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v219 : Index := Scalar.indexCast v200
  let c32_219 : Index := 32#32
  ![v219.toNat, 32]
def k0_off45 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v228 : Index := Scalar.indexCast v200
  let c48_221 : Index := 48#32
  ![v228.toNat, 48]
def k0_off46 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v237 : Index := Scalar.indexCast v200
  let c64_223 : Index := 64#32
  ![v237.toNat, 64]
def k0_off47 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v246 : Index := Scalar.indexCast v200
  let c80_225 : Index := 80#32
  ![v246.toNat, 80]
def k0_off48 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v255 : Index := Scalar.indexCast v200
  let c96_227 : Index := 96#32
  ![v255.toNat, 96]
def k0_off49 (k0_t5 : Fin k0_t5_loop.trips) : Fin 2 → Nat :=
  let c4_i32_214 : BitVec 32 := 4#32
  let c0_i32_175 : BitVec 32 := 0#32
  let c1_i32_177 : BitVec 32 := 1#32
  let arg25 : BitVec 32 := Scf.iv c0_i32_175 c1_i32_177 k0_t5
  let v200 : BitVec 32 := Scalar.muli c4_i32_214 arg25
  let v264 : Index := Scalar.indexCast v200
  let c112_229 : Index := 112#32
  ![v264.toNat, 112]
def k0_off50 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v275 : Index := Scalar.indexCast v274
  let c0_233 : Index := 0#32
  ![v275.toNat, 0]
def k0_off51 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v284 : Index := Scalar.indexCast v274
  let c16_235 : Index := 16#32
  ![v284.toNat, 16]
def k0_off52 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v293 : Index := Scalar.indexCast v274
  let c32_237 : Index := 32#32
  ![v293.toNat, 32]
def k0_off53 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v302 : Index := Scalar.indexCast v274
  let c48_239 : Index := 48#32
  ![v302.toNat, 48]
def k0_off54 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v311 : Index := Scalar.indexCast v274
  let c64_241 : Index := 64#32
  ![v311.toNat, 64]
def k0_off55 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v320 : Index := Scalar.indexCast v274
  let c80_243 : Index := 80#32
  ![v320.toNat, 80]
def k0_off56 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v329 : Index := Scalar.indexCast v274
  let c96_245 : Index := 96#32
  ![v329.toNat, 96]
def k0_off57 (k0_t5 : Fin k0_t5_loop.trips) (c1_i32_232 : BitVec 32) : Fin 2 → Nat :=
  let c4_i32_231 : BitVec 32 := 4#32
  let c0_i32_175 : BitVec 32 := 0#32
  let c1_i32_177 : BitVec 32 := 1#32
  let arg25 : BitVec 32 := Scf.iv c0_i32_175 c1_i32_177 k0_t5
  let v273 : BitVec 32 := Scalar.muli c4_i32_231 arg25
  let v274 : BitVec 32 := Scalar.addi v273 c1_i32_232
  let v338 : Index := Scalar.indexCast v274
  let c112_247 : Index := 112#32
  ![v338.toNat, 112]
def k0_off58 (k0_t5 : Fin k0_t5_loop.trips) : Fin 1 → Nat :=
  let c0_i32_175 : BitVec 32 := 0#32
  let c1_i32_177 : BitVec 32 := 1#32
  let arg25 : BitVec 32 := Scf.iv c0_i32_175 c1_i32_177 k0_t5
  let c16_i32 : BitVec 32 := 16#32
  let v533 : BitVec 32 := Scalar.muli arg25 c16_i32
  let v534 : Index := Scalar.indexCast v533
  ![v534.toNat]
@[reducible] def k0_t6_loop : Scf.Loop 32 :=
  let c0_i32_180 : BitVec 32 := 0#32
  let c8_i32_181 : BitVec 32 := 8#32
  let v185 : BitVec 32 := Scalar.addi c0_i32_180 c8_i32_181
  let c1_i32_182 : BitVec 32 := 1#32
  ⟨c0_i32_180, v185, c1_i32_182⟩
def k0_off59 (k0_t6 : Fin k0_t6_loop.trips) : Fin 1 → Nat :=
  let c4_i32_214 : BitVec 32 := 4#32
  let c0_i32_180 : BitVec 32 := 0#32
  let c1_i32_182 : BitVec 32 := 1#32
  let arg25 : BitVec 32 := Scf.iv c0_i32_180 c1_i32_182 k0_t6
  let v200 : BitVec 32 := Scalar.muli c4_i32_214 arg25
  let c16_i32 : BitVec 32 := 16#32
  let v201 : BitVec 32 := Scalar.muli v200 c16_i32
  let v202 : Index := Scalar.indexCast v201
  ![v202.toNat]
def k0_off60 (k0_t6 : Fin k0_t6_loop.trips) (c1_i32_216 : BitVec 32) : Fin 1 → Nat :=
  let c4_i32_215 : BitVec 32 := 4#32
  let c0_i32_180 : BitVec 32 := 0#32
  let c1_i32_182 : BitVec 32 := 1#32
  let arg25 : BitVec 32 := Scf.iv c0_i32_180 c1_i32_182 k0_t6
  let v205 : BitVec 32 := Scalar.muli c4_i32_215 arg25
  let v206 : BitVec 32 := Scalar.addi v205 c1_i32_216
  let c16_i32_217 : BitVec 32 := 16#32
  let v207 : BitVec 32 := Scalar.muli v206 c16_i32_217
  let v208 : Index := Scalar.indexCast v207
  ![v208.toNat]
def k0_off61 (k0_t6 : Fin k0_t6_loop.trips) : Fin 1 → Nat :=
  let c256_i32_228 : BitVec 32 := 256#32
  let c0_i32_180 : BitVec 32 := 0#32
  let c1_i32_182 : BitVec 32 := 1#32
  let arg25 : BitVec 32 := Scf.iv c0_i32_180 c1_i32_182 k0_t6
  let c16_i32_227 : BitVec 32 := 16#32
  let v240 : BitVec 32 := Scalar.muli arg25 c16_i32_227
  let v241 : BitVec 32 := Scalar.addi c256_i32_228 v240
  let v242 : Index := Scalar.indexCast v241
  ![v242.toNat]
@[reducible] def k0_t7_loop : Scf.Loop 32 :=
  let c0_i32_205 : BitVec 32 := 0#32
  let c32_i32_206 : BitVec 32 := 32#32
  let v198 : BitVec 32 := Scalar.addi c0_i32_205 c32_i32_206
  let c1_i32_207 : BitVec 32 := 1#32
  ⟨c0_i32_205, v198, c1_i32_207⟩
def k0_off62 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v201 : Index := Scalar.indexCast v200
  let c0_215 : Index := 0#32
  ![v201.toNat, 0]
def k0_off63 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v210 : Index := Scalar.indexCast v200
  let c16_217 : Index := 16#32
  ![v210.toNat, 16]
def k0_off64 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v219 : Index := Scalar.indexCast v200
  let c32_219 : Index := 32#32
  ![v219.toNat, 32]
def k0_off65 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v228 : Index := Scalar.indexCast v200
  let c48_221 : Index := 48#32
  ![v228.toNat, 48]
def k0_off66 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v237 : Index := Scalar.indexCast v200
  let c64_223 : Index := 64#32
  ![v237.toNat, 64]
def k0_off67 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v246 : Index := Scalar.indexCast v200
  let c80_225 : Index := 80#32
  ![v246.toNat, 80]
def k0_off68 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v255 : Index := Scalar.indexCast v200
  let c96_227 : Index := 96#32
  ![v255.toNat, 96]
def k0_off69 (k0_t7 : Fin k0_t7_loop.trips) : Fin 2 → Nat :=
  let c4_i32_214 : BitVec 32 := 4#32
  let c0_i32_205 : BitVec 32 := 0#32
  let c1_i32_207 : BitVec 32 := 1#32
  let arg25 : BitVec 32 := Scf.iv c0_i32_205 c1_i32_207 k0_t7
  let v200 : BitVec 32 := Scalar.muli c4_i32_214 arg25
  let v264 : Index := Scalar.indexCast v200
  let c112_229 : Index := 112#32
  ![v264.toNat, 112]
def k0_off70 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v275 : Index := Scalar.indexCast v274
  let c0_233 : Index := 0#32
  ![v275.toNat, 0]
def k0_off71 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v284 : Index := Scalar.indexCast v274
  let c16_235 : Index := 16#32
  ![v284.toNat, 16]
def k0_off72 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v293 : Index := Scalar.indexCast v274
  let c32_237 : Index := 32#32
  ![v293.toNat, 32]
def k0_off73 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v302 : Index := Scalar.indexCast v274
  let c48_239 : Index := 48#32
  ![v302.toNat, 48]
def k0_off74 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v311 : Index := Scalar.indexCast v274
  let c64_241 : Index := 64#32
  ![v311.toNat, 64]
def k0_off75 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v320 : Index := Scalar.indexCast v274
  let c80_243 : Index := 80#32
  ![v320.toNat, 80]
def k0_off76 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v329 : Index := Scalar.indexCast v274
  let c96_245 : Index := 96#32
  ![v329.toNat, 96]
def k0_off77 (k0_t7 : Fin k0_t7_loop.trips) (c1_i32_232 : BitVec 32) : Fin 2 → Nat :=
  let c4_i32_231 : BitVec 32 := 4#32
  let c0_i32_205 : BitVec 32 := 0#32
  let c1_i32_207 : BitVec 32 := 1#32
  let arg25 : BitVec 32 := Scf.iv c0_i32_205 c1_i32_207 k0_t7
  let v273 : BitVec 32 := Scalar.muli c4_i32_231 arg25
  let v274 : BitVec 32 := Scalar.addi v273 c1_i32_232
  let v338 : Index := Scalar.indexCast v274
  let c112_247 : Index := 112#32
  ![v338.toNat, 112]

def k0_chk1 (v41 : IVec S16 32) : Prop :=
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a) ∧
  (∀ a x, ((![v41] : Fin 1 → IVec S16 32) a x).toNat < S16.size a)
theorem k0_idx1_inb : ∀ (v41 : IVec S16 32) (k0_hw1 : k0_chk1 v41), ∀ a x, ((![v41] : Fin 1 → IVec S16 32) a x).toNat < S16.size a := fun v41 k0_hw1 => k0_hw1.1
theorem k0_idx2_inb : ∀ (v41 : IVec S16 32) (k0_hw1 : k0_chk1 v41), ∀ a x, ((![v41] : Fin 1 → IVec S16 32) a x).toNat < S16.size a := fun v41 k0_hw1 => k0_hw1.2.1
theorem k0_idx3_inb : ∀ (v41 : IVec S16 32) (k0_hw1 : k0_chk1 v41), ∀ a x, ((![v41] : Fin 1 → IVec S16 32) a x).toNat < S16.size a := fun v41 k0_hw1 => k0_hw1.2.2.1
theorem k0_idx4_inb : ∀ (v41 : IVec S16 32) (k0_hw1 : k0_chk1 v41), ∀ a x, ((![v41] : Fin 1 → IVec S16 32) a x).toNat < S16.size a := fun v41 k0_hw1 => k0_hw1.2.2.2.1
theorem k0_idx11_inb : ∀ (v41 : IVec S16 32) (k0_hw1 : k0_chk1 v41), ∀ a x, ((![v41] : Fin 1 → IVec S16 32) a x).toNat < S16.size a := fun v41 k0_hw1 => k0_hw1.2.2.2.2.1
theorem k0_idx12_inb : ∀ (v41 : IVec S16 32) (k0_hw1 : k0_chk1 v41), ∀ a x, ((![v41] : Fin 1 → IVec S16 32) a x).toNat < S16.size a := fun v41 k0_hw1 => k0_hw1.2.2.2.2.2.1
theorem k0_idx13_inb : ∀ (v41 : IVec S16 32) (k0_hw1 : k0_chk1 v41), ∀ a x, ((![v41] : Fin 1 → IVec S16 32) a x).toNat < S16.size a := fun v41 k0_hw1 => k0_hw1.2.2.2.2.2.2.1
theorem k0_idx14_inb : ∀ (v41 : IVec S16 32) (k0_hw1 : k0_chk1 v41), ∀ a x, ((![v41] : Fin 1 → IVec S16 32) a x).toNat < S16.size a := fun v41 k0_hw1 => k0_hw1.2.2.2.2.2.2.2.1
theorem k0_idx21_inb : ∀ (v41 : IVec S16 32) (k0_hw1 : k0_chk1 v41), ∀ a x, ((![v41] : Fin 1 → IVec S16 32) a x).toNat < S16.size a := fun v41 k0_hw1 => k0_hw1.2.2.2.2.2.2.2.2.1
theorem k0_idx22_inb : ∀ (v41 : IVec S16 32) (k0_hw1 : k0_chk1 v41), ∀ a x, ((![v41] : Fin 1 → IVec S16 32) a x).toNat < S16.size a := fun v41 k0_hw1 => k0_hw1.2.2.2.2.2.2.2.2.2.1
theorem k0_idx23_inb : ∀ (v41 : IVec S16 32) (k0_hw1 : k0_chk1 v41), ∀ a x, ((![v41] : Fin 1 → IVec S16 32) a x).toNat < S16.size a := fun v41 k0_hw1 => k0_hw1.2.2.2.2.2.2.2.2.2.2.1
theorem k0_idx24_inb : ∀ (v41 : IVec S16 32) (k0_hw1 : k0_chk1 v41), ∀ a x, ((![v41] : Fin 1 → IVec S16 32) a x).toNat < S16.size a := fun v41 k0_hw1 => k0_hw1.2.2.2.2.2.2.2.2.2.2.2.1
theorem k0_idx31_inb : ∀ (v41 : IVec S16 32) (k0_hw1 : k0_chk1 v41), ∀ a x, ((![v41] : Fin 1 → IVec S16 32) a x).toNat < S16.size a := fun v41 k0_hw1 => k0_hw1.2.2.2.2.2.2.2.2.2.2.2.2.1
theorem k0_idx32_inb : ∀ (v41 : IVec S16 32) (k0_hw1 : k0_chk1 v41), ∀ a x, ((![v41] : Fin 1 → IVec S16 32) a x).toNat < S16.size a := fun v41 k0_hw1 => k0_hw1.2.2.2.2.2.2.2.2.2.2.2.2.2.1
theorem k0_idx33_inb : ∀ (v41 : IVec S16 32) (k0_hw1 : k0_chk1 v41), ∀ a x, ((![v41] : Fin 1 → IVec S16 32) a x).toNat < S16.size a := fun v41 k0_hw1 => k0_hw1.2.2.2.2.2.2.2.2.2.2.2.2.2.2.1
theorem k0_idx34_inb : ∀ (v41 : IVec S16 32) (k0_hw1 : k0_chk1 v41), ∀ a x, ((![v41] : Fin 1 → IVec S16 32) a x).toNat < S16.size a := fun v41 k0_hw1 => k0_hw1.2.2.2.2.2.2.2.2.2.2.2.2.2.2.2

def k0_chk2 (v48 : IVec S16 32) : Prop :=
  (∀ a x, ((![v48] : Fin 1 → IVec S16 32) a x).toNat < S16.size a) ∧
  (∀ a x, ((![v48] : Fin 1 → IVec S16 32) a x).toNat < S16.size a) ∧
  (∀ a x, ((![v48] : Fin 1 → IVec S16 32) a x).toNat < S16.size a) ∧
  (∀ a x, ((![v48] : Fin 1 → IVec S16 32) a x).toNat < S16.size a) ∧
  (∀ a x, ((![v48] : Fin 1 → IVec S16 32) a x).toNat < S16.size a) ∧
  (∀ a x, ((![v48] : Fin 1 → IVec S16 32) a x).toNat < S16.size a) ∧
  (∀ a x, ((![v48] : Fin 1 → IVec S16 32) a x).toNat < S16.size a) ∧
  (∀ a x, ((![v48] : Fin 1 → IVec S16 32) a x).toNat < S16.size a)
theorem k0_idx5_inb : ∀ (v48 : IVec S16 32) (k0_hw2 : k0_chk2 v48), ∀ a x, ((![v48] : Fin 1 → IVec S16 32) a x).toNat < S16.size a := fun v48 k0_hw2 => k0_hw2.1
theorem k0_idx6_inb : ∀ (v48 : IVec S16 32) (k0_hw2 : k0_chk2 v48), ∀ a x, ((![v48] : Fin 1 → IVec S16 32) a x).toNat < S16.size a := fun v48 k0_hw2 => k0_hw2.2.1
theorem k0_idx15_inb : ∀ (v48 : IVec S16 32) (k0_hw2 : k0_chk2 v48), ∀ a x, ((![v48] : Fin 1 → IVec S16 32) a x).toNat < S16.size a := fun v48 k0_hw2 => k0_hw2.2.2.1
theorem k0_idx16_inb : ∀ (v48 : IVec S16 32) (k0_hw2 : k0_chk2 v48), ∀ a x, ((![v48] : Fin 1 → IVec S16 32) a x).toNat < S16.size a := fun v48 k0_hw2 => k0_hw2.2.2.2.1
theorem k0_idx25_inb : ∀ (v48 : IVec S16 32) (k0_hw2 : k0_chk2 v48), ∀ a x, ((![v48] : Fin 1 → IVec S16 32) a x).toNat < S16.size a := fun v48 k0_hw2 => k0_hw2.2.2.2.2.1
theorem k0_idx26_inb : ∀ (v48 : IVec S16 32) (k0_hw2 : k0_chk2 v48), ∀ a x, ((![v48] : Fin 1 → IVec S16 32) a x).toNat < S16.size a := fun v48 k0_hw2 => k0_hw2.2.2.2.2.2.1
theorem k0_idx35_inb : ∀ (v48 : IVec S16 32) (k0_hw2 : k0_chk2 v48), ∀ a x, ((![v48] : Fin 1 → IVec S16 32) a x).toNat < S16.size a := fun v48 k0_hw2 => k0_hw2.2.2.2.2.2.2.1
theorem k0_idx36_inb : ∀ (v48 : IVec S16 32) (k0_hw2 : k0_chk2 v48), ∀ a x, ((![v48] : Fin 1 → IVec S16 32) a x).toNat < S16.size a := fun v48 k0_hw2 => k0_hw2.2.2.2.2.2.2.2

def k0_chk3 (v55 : IVec S16 32) : Prop :=
  (∀ a x, ((![v55] : Fin 1 → IVec S16 32) a x).toNat < S16.size a) ∧
  (∀ a x, ((![v55] : Fin 1 → IVec S16 32) a x).toNat < S16.size a) ∧
  (∀ a x, ((![v55] : Fin 1 → IVec S16 32) a x).toNat < S16.size a) ∧
  (∀ a x, ((![v55] : Fin 1 → IVec S16 32) a x).toNat < S16.size a)
theorem k0_idx7_inb : ∀ (v55 : IVec S16 32) (k0_hw3 : k0_chk3 v55), ∀ a x, ((![v55] : Fin 1 → IVec S16 32) a x).toNat < S16.size a := fun v55 k0_hw3 => k0_hw3.1
theorem k0_idx17_inb : ∀ (v55 : IVec S16 32) (k0_hw3 : k0_chk3 v55), ∀ a x, ((![v55] : Fin 1 → IVec S16 32) a x).toNat < S16.size a := fun v55 k0_hw3 => k0_hw3.2.1
theorem k0_idx27_inb : ∀ (v55 : IVec S16 32) (k0_hw3 : k0_chk3 v55), ∀ a x, ((![v55] : Fin 1 → IVec S16 32) a x).toNat < S16.size a := fun v55 k0_hw3 => k0_hw3.2.2.1
theorem k0_idx37_inb : ∀ (v55 : IVec S16 32) (k0_hw3 : k0_chk3 v55), ∀ a x, ((![v55] : Fin 1 → IVec S16 32) a x).toNat < S16.size a := fun v55 k0_hw3 => k0_hw3.2.2.2
def k0_off78 (k0_t7 : Fin k0_t7_loop.trips) : Fin 1 → Nat :=
  let c0_i32_205 : BitVec 32 := 0#32
  let c1_i32_207 : BitVec 32 := 1#32
  let arg25 : BitVec 32 := Scf.iv c0_i32_205 c1_i32_207 k0_t7
  let c16_i32 : BitVec 32 := 16#32
  let v533 : BitVec 32 := Scalar.muli arg25 c16_i32
  let v534 : Index := Scalar.indexCast v533
  ![v534.toNat]
@[reducible] def k0_t8_loop : Scf.Loop 32 :=
  let c0_i32_210 : BitVec 32 := 0#32
  let c8_i32_211 : BitVec 32 := 8#32
  let v199 : BitVec 32 := Scalar.addi c0_i32_210 c8_i32_211
  let c1_i32_212 : BitVec 32 := 1#32
  ⟨c0_i32_210, v199, c1_i32_212⟩
def k0_off79 (k0_t8 : Fin k0_t8_loop.trips) : Fin 1 → Nat :=
  let c4_i32_214 : BitVec 32 := 4#32
  let c0_i32_210 : BitVec 32 := 0#32
  let c1_i32_212 : BitVec 32 := 1#32
  let arg25 : BitVec 32 := Scf.iv c0_i32_210 c1_i32_212 k0_t8
  let v200 : BitVec 32 := Scalar.muli c4_i32_214 arg25
  let c16_i32 : BitVec 32 := 16#32
  let v201 : BitVec 32 := Scalar.muli v200 c16_i32
  let v202 : Index := Scalar.indexCast v201
  ![v202.toNat]
def k0_off80 (k0_t8 : Fin k0_t8_loop.trips) (c1_i32_216 : BitVec 32) : Fin 1 → Nat :=
  let c4_i32_215 : BitVec 32 := 4#32
  let c0_i32_210 : BitVec 32 := 0#32
  let c1_i32_212 : BitVec 32 := 1#32
  let arg25 : BitVec 32 := Scf.iv c0_i32_210 c1_i32_212 k0_t8
  let v205 : BitVec 32 := Scalar.muli c4_i32_215 arg25
  let v206 : BitVec 32 := Scalar.addi v205 c1_i32_216
  let c16_i32_217 : BitVec 32 := 16#32
  let v207 : BitVec 32 := Scalar.muli v206 c16_i32_217
  let v208 : Index := Scalar.indexCast v207
  ![v208.toNat]

def k0_chk4 (v62 : IVec S16 32) : Prop :=
  (∀ a x, ((![v62] : Fin 1 → IVec S16 32) a x).toNat < S16.size a) ∧
  (∀ a x, ((![v62] : Fin 1 → IVec S16 32) a x).toNat < S16.size a) ∧
  (∀ a x, ((![v62] : Fin 1 → IVec S16 32) a x).toNat < S16.size a) ∧
  (∀ a x, ((![v62] : Fin 1 → IVec S16 32) a x).toNat < S16.size a) ∧
  (∀ a x, ((![v62] : Fin 1 → IVec S16 32) a x).toNat < S16.size a) ∧
  (∀ a x, ((![v62] : Fin 1 → IVec S16 32) a x).toNat < S16.size a) ∧
  (∀ a x, ((![v62] : Fin 1 → IVec S16 32) a x).toNat < S16.size a) ∧
  (∀ a x, ((![v62] : Fin 1 → IVec S16 32) a x).toNat < S16.size a)
theorem k0_idx8_inb : ∀ (v62 : IVec S16 32) (k0_hw4 : k0_chk4 v62), ∀ a x, ((![v62] : Fin 1 → IVec S16 32) a x).toNat < S16.size a := fun v62 k0_hw4 => k0_hw4.1
theorem k0_idx9_inb : ∀ (v62 : IVec S16 32) (k0_hw4 : k0_chk4 v62), ∀ a x, ((![v62] : Fin 1 → IVec S16 32) a x).toNat < S16.size a := fun v62 k0_hw4 => k0_hw4.2.1
theorem k0_idx18_inb : ∀ (v62 : IVec S16 32) (k0_hw4 : k0_chk4 v62), ∀ a x, ((![v62] : Fin 1 → IVec S16 32) a x).toNat < S16.size a := fun v62 k0_hw4 => k0_hw4.2.2.1
theorem k0_idx19_inb : ∀ (v62 : IVec S16 32) (k0_hw4 : k0_chk4 v62), ∀ a x, ((![v62] : Fin 1 → IVec S16 32) a x).toNat < S16.size a := fun v62 k0_hw4 => k0_hw4.2.2.2.1
theorem k0_idx28_inb : ∀ (v62 : IVec S16 32) (k0_hw4 : k0_chk4 v62), ∀ a x, ((![v62] : Fin 1 → IVec S16 32) a x).toNat < S16.size a := fun v62 k0_hw4 => k0_hw4.2.2.2.2.1
theorem k0_idx29_inb : ∀ (v62 : IVec S16 32) (k0_hw4 : k0_chk4 v62), ∀ a x, ((![v62] : Fin 1 → IVec S16 32) a x).toNat < S16.size a := fun v62 k0_hw4 => k0_hw4.2.2.2.2.2.1
theorem k0_idx38_inb : ∀ (v62 : IVec S16 32) (k0_hw4 : k0_chk4 v62), ∀ a x, ((![v62] : Fin 1 → IVec S16 32) a x).toNat < S16.size a := fun v62 k0_hw4 => k0_hw4.2.2.2.2.2.2.1
theorem k0_idx39_inb : ∀ (v62 : IVec S16 32) (k0_hw4 : k0_chk4 v62), ∀ a x, ((![v62] : Fin 1 → IVec S16 32) a x).toNat < S16.size a := fun v62 k0_hw4 => k0_hw4.2.2.2.2.2.2.2

def k0_chk5 (v81 : IVec S16 32) : Prop :=
  (∀ a x, ((![v81] : Fin 1 → IVec S16 32) a x).toNat < S16.size a) ∧
  (∀ a x, ((![v81] : Fin 1 → IVec S16 32) a x).toNat < S16.size a) ∧
  (∀ a x, ((![v81] : Fin 1 → IVec S16 32) a x).toNat < S16.size a) ∧
  (∀ a x, ((![v81] : Fin 1 → IVec S16 32) a x).toNat < S16.size a)
theorem k0_idx10_inb : ∀ (v81 : IVec S16 32) (k0_hw5 : k0_chk5 v81), ∀ a x, ((![v81] : Fin 1 → IVec S16 32) a x).toNat < S16.size a := fun v81 k0_hw5 => k0_hw5.1
theorem k0_idx20_inb : ∀ (v81 : IVec S16 32) (k0_hw5 : k0_chk5 v81), ∀ a x, ((![v81] : Fin 1 → IVec S16 32) a x).toNat < S16.size a := fun v81 k0_hw5 => k0_hw5.2.1
theorem k0_idx30_inb : ∀ (v81 : IVec S16 32) (k0_hw5 : k0_chk5 v81), ∀ a x, ((![v81] : Fin 1 → IVec S16 32) a x).toNat < S16.size a := fun v81 k0_hw5 => k0_hw5.2.2.1
theorem k0_idx40_inb : ∀ (v81 : IVec S16 32) (k0_hw5 : k0_chk5 v81), ∀ a x, ((![v81] : Fin 1 → IVec S16 32) a x).toNat < S16.size a := fun v81 k0_hw5 => k0_hw5.2.2.2
def k0_off81 (k0_t8 : Fin k0_t8_loop.trips) : Fin 1 → Nat :=
  let c384_i32_228 : BitVec 32 := 384#32
  let c0_i32_210 : BitVec 32 := 0#32
  let c1_i32_212 : BitVec 32 := 1#32
  let arg25 : BitVec 32 := Scf.iv c0_i32_210 c1_i32_212 k0_t8
  let c16_i32_227 : BitVec 32 := 16#32
  let v240 : BitVec 32 := Scalar.muli arg25 c16_i32_227
  let v241 : BitVec 32 := Scalar.addi c384_i32_228 v240
  let v242 : Index := Scalar.indexCast v241
  ![v242.toNat]
def k0_off82 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S1x128 : Shape := ⟨2, ![1, 128]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S128x1 : Shape := ⟨2, ![128, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S1x128, .f32⟩
  | .hbm, ⟨5, _⟩ => ⟨S1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x128, .f32⟩
  | .hbm, ⟨25, _⟩ => ⟨S16384x128, .i1⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x128, .f32⟩
  | .hbm, ⟨48, _⟩ => ⟨S16384x128, .i1⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S128x1, .f32⟩
  | .hbm, ⟨54, _⟩ => ⟨S16384x1, .f32⟩
  | .hbm, ⟨55, _⟩ => ⟨S1x1, .f32⟩
  | .hbm, ⟨56, _⟩ => ⟨S16384x1, .f32⟩
  | .hbm, ⟨57, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩

abbrev nD : Nat := 1
abbrev τ : Topo := Topo.v7x

variable {F : FTy → Type} [FloatOps F]
-- ==== Proof.GatherBatch.lean ====
module
public import Idealize.ShloMosaic.Lib.SparseCore.Stream
public import Idealize.ShloMosaic.Lib.Batch

/-! Several indirect gathers in flight on one DMA semaphore.

The kernel starts four gathers on a semaphore before it waits for any of them. A wait for one of them says only how many
units the semaphore has counted, so the rows that have landed by then may belong to any of the four. Here all the rows of
all the gathers form one batch: a row is one transfer, every row counts the same number of units, a wait takes the units of
one gather's rows and hands nothing back, and the last wait hands back every row of every gather. -/

@[expose] public section
noncomputable section

namespace Cert.KernelIdeal.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section Groups
omit [Preorder Lvl]

theorem both {P R : sProp 𝕄} (h : P ⊢ R) (h' : R ⊢ P) : P = R := BI.Entails.antisymm h h'

/-- The issue rights from transfer `k` on are those of the next `o` transfers and those from `k + o` on. -/
theorem pending_run {n : ℕ} (Φ : Fin n → sProp 𝕄) : ∀ (o k : ℕ) (h : k + o ≤ n),
    bigSep (Transfers.pending k) Φ
      = iprop((bigSep Finset.univ fun j : Fin o => Φ ⟨k + j.val, by omega⟩) ∗ bigSep (Transfers.pending (k + o)) Φ)
  | 0, k, _ => by
    rw [show (Finset.univ : Finset (Fin 0)) = ∅ from rfl, BI.bigSep_empty]
    refine both ?_ ?_
    · iintro H; isplitr; · iempintro
      iexact H
    · iintro ⟨-, H⟩; iexact H
  | o + 1, k, h => by
    rw [Transfers.bigSep_pending_step Φ k (by omega), pending_run Φ o (k + 1) (by omega), bigSep_univ_succ]
    have e1 : (fun j : Fin o => Φ ⟨k + 1 + j.val, by omega⟩) = fun j : Fin o => Φ ⟨k + j.succ.val, by have := j.isLt; simp; omega⟩ := by
      funext j; congr 2; simp; omega
    rw [e1, show k + 1 + o = k + (o + 1) by omega,
      show Φ ⟨k + (0 : Fin (o + 1)).val, by simp; omega⟩ = Φ ⟨k, by omega⟩ from rfl]
    refine both ?_ ?_
    · iintro ⟨H0, H1, H2⟩
      isplitr [H2]
      · isplitl [H0] <;> iassumption
      · iexact H2
    · iintro ⟨⟨H0, H1⟩, H2⟩
      isplitl [H0]; · iexact H0
      isplitl [H1] <;> iassumption

/-- The deliveries of `m` gathers of `o` rows each as one family: gather by gather, row by row. -/
def grouped {m o : ℕ} (A : Fin m → Fin o → sProp 𝕄) (t : Fin (m * o)) : sProp 𝕄 := A t.divNat t.modNat

theorem grouped_at {m o : ℕ} (A : Fin m → Fin o → sProp 𝕄) (i : Fin m) (j : Fin o) (h : i.val * o + j.val < m * o) :
    grouped A ⟨i.val * o + j.val, h⟩ = A i j := by
  have ho : 0 < o := by have := j.isLt; omega
  unfold grouped
  congr 1
  · congr 1
    apply Fin.ext
    change (i.val * o + j.val) / o = i.val
    rw [Nat.mul_comm, Nat.mul_add_div ho, Nat.div_eq_of_lt j.isLt, Nat.add_zero]
  · apply Fin.ext
    change (i.val * o + j.val) % o = j.val
    rw [Nat.mul_comm, Nat.mul_add_mod, Nat.mod_eq_of_lt j.isLt]

/-- All the rows of four gathers, gather by gather. -/
theorem grouped_four {o : ℕ} (A : Fin 4 → Fin o → sProp 𝕄) :
    bigSep Finset.univ (grouped A)
      ⊢ iprop(bigSep Finset.univ (A 0) ∗ bigSep Finset.univ (A 1) ∗ bigSep Finset.univ (A 2) ∗ bigSep Finset.univ (A 3)) := by
  have hg : ∀ (i : Fin 4) (k : ℕ) (hk : k = i.val * o) (h : k + o ≤ 4 * o),
      (fun j : Fin o => grouped A ⟨k + j.val, by omega⟩) = A i := fun i k hk h => by
    subst hk; funext j; exact grouped_at A i j _
  rw [Transfers.bigSep_pending_zero, pending_run _ o 0 (by omega), pending_run _ o (0 + o) (by omega),
    pending_run _ o (0 + o + o) (by omega), pending_run _ o (0 + o + o + o) (by omega),
    hg 0 0 (by simp) (by omega), hg 1 (0 + o) (by simp) (by omega), hg 2 (0 + o + o) (by simp; omega) (by omega),
    hg 3 (0 + o + o + o) (by simp; omega) (by omega)]
  iintro ⟨H0, H1, H2, H3, -⟩
  isplitl [H0]; · iexact H0
  isplitl [H1]; · iexact H1
  isplitl [H2] <;> iassumption

instance grouped_storable {m o : ℕ} (A : Fin m → Fin o → sProp 𝕄) [∀ i j, Storable (upEmb : UEmb _ 𝕄) (A i j)]
    (t : Fin (m * o)) : Storable (upEmb : UEmb _ 𝕄) (grouped A t) := by
  unfold grouped; infer_instance

end Groups

section Rows

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
variable (ho : 0 < s.size hg.axis') (hin : ∀ x, (offs.view.read (Elt F) fo x).toNat < s₀.size hg.axis)

/-- Where entry `j` stands in the list. -/
def entryAt (j : Fin (s.size hg.axis')) : si.Idx := si.rowMajor.symm (j.cast hn.symm)

/-- What row `j` of a gather hands back when it has landed: the destination's row written with the table's row, the
    entry's share of the list, a piece of the table's share. -/
def landed (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (entryAt hg hn j)}]{qo} fo))
    ∗ (src.view.loc c ↦[src.view.set]{pieceOf q _ ho j} fs))

instance landed_storable (j : Fin (s.size hg.axis')) :
    Storable (upEmb : UEmb _ 𝕄) (landed (Ix := Ix) (Name := Name) (U := U) (Lvl := Lvl) c src dst hg offs hn q qo fs fd fo ho hin j) := by
  unfold landed; infer_instance

omit [Preorder Lvl] in
theorem entryAt_bijective : Function.Bijective (entryAt (s₀ := s₀) (s := s) (a := a) hg hn) :=
  si.rowMajor.symm.bijective.comp (finCongr hn.symm).bijective

omit [Preorder Lvl] in
/-- All the rows of a gather together: the destination holds the gathered rows, the table's and the list's shares are back. -/
theorem landed_all :
    bigSep Finset.univ (landed (Ix := Ix) (Name := Name) (U := U) (Lvl := Lvl) c src dst hg offs hn q qo fs fd fo ho hin)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  let w : (j : Fin (s.size hg.axis')) → (s.rowShape hg.axis').Idx → Elt F e := fun j i =>
    src.view.read (Elt F) fs (hg.rowIdx (rows (offs.view.read (Elt F) fo) hn hin j) i)
  have hW : ∀ j i, w j i = gatherPayload hg (src.view.read (Elt F) fs) (rows (offs.view.read (Elt F) fo) hn hin)
      ((s.rowRect hg.axis' j).emb i) := fun j i => by
    unfold gatherPayload; rw [Shape.Gathers.idx_rowRect_emb]
  change bigSep Finset.univ (fun j : Fin (s.size hg.axis') =>
    iprop(((dst.view.loc c ↦[(dst.view.slice (s.rowRect hg.axis' j)).set]{fullShare}
        ((dst.view.slice (s.rowRect hg.axis' j)).write (Elt F) fd (w j) Finset.univ))
      ∗ (offs.view.loc c ↦[{offs.view.emb (entryAt hg hn j)}]{qo} fo))
    ∗ (src.view.loc c ↦[src.view.set]{pieceOf q _ ho j} fs))) ⊢ _
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]; · iapply (pointsTo_rows_write c dst.view hg.axis' fd w _ hW) $$ Hd
  isplitl [Hs]
  · iapply (Entails.of_eq (pointsTo_piecesOf (src.view.set) fs ho q).symm) $$ Hs
  · iapply (Entails.of_eq (pointsTo_entries c offs.view (entryAt hg hn) (entryAt_bijective hg hn) qo fo).symm) $$ Ho

end Rows

/-- A gather started inside a batch: the next gather's rows go from pending to issued. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {m : ℕ} (A : Fin m → Fin (s.size hg.axis') → sProp 𝕄) (i : Fin m) {u k₀ k₁ : ℕ}
    (hk₀ : k₀ = i.val * s.size hg.axis') (hk₁ : k₁ = k₀ + s.size hg.axis') (hu : u ≤ k₀ * N)
    (hA : A i = landed c src dst hg offs hn q qo fs fd fo ho hin) :
    iprop((src.view.loc c ↦[src.view.set]{q} fs) ∗ (dst.view.loc c ↦[dst.view.set]{fullShare} fd)
        ∗ (offs.view.loc c ↦[offs.view.set]{qo} fo) ∗ Transfers.Batch EC c (.dma sem) ι N (grouped A) k₀ u)
      ⊢ iprop((Transfers.Batch EC c (.dma sem) ι N (grouped A) k₁ u -∗ wp frame (wpE defs 𝒱 c bd) Set.univ (k ⟨⟩) Q)
          -∗ wp frame (wpE defs 𝒱 c bd) Set.univ (enqueueIndirectGather hp src dst hg offs hn sem hsrc he hsp hr >>= k) Q) := by
  subst hk₁
  have hfit : k₀ + s.size hg.axis' ≤ m * s.size hg.axis' := by
    rw [hk₀, ← Nat.succ_mul]; exact Nat.mul_le_mul_right _ i.isLt
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hagree : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N :=
    (Finset.sum_congr rfl fun j _ => hN j).trans (by rw [Finset.sum_const, Finset.card_univ, Fintype.card_fin, smul_eq_mul])
  unfold Transfers.Batch
  iintro ⟨Hs, Hd, Ho, ⟨%γ, %γ₀, %κ, #Hinv, HI, H0, Hcred⟩⟩ Hk
  ihave HI' := (Entails.of_eq (pending_run (fun t => count EC (γ t) 0) (s.size hg.axis') k₀ hfit)) $$ HI
  icases HI' with ⟨Hγ, HI⟩
  ihave Hd' := (Entails.of_eq (pointsTo_rows c dst.view hg.axis' fullShare fd)) $$ Hd
  ihave Ho' := (Entails.of_eq (pointsTo_entries c offs.view (entryAt hg hn) (entryAt_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hagree hrd hsum) $$ [Hd' Ho' Hs' Hγ]
  · have hrow : ∀ j : Fin (s.size hg.axis'), iprop(inv κ (Transfers.batchBody EC (c, SemLoc.dma sem) N (grouped A) γ γ₀)
          ∗ ((((dst.view.loc c ↦[(dst.view.slice (s.rowRect hg.axis' j)).set]{fullShare} fd)
            ∗ (offs.view.loc c ↦[{offs.view.emb (entryAt hg hn j)}]{qo} fo))
          ∗ (src.view.loc c ↦[src.view.set]{pieceOf q _ ho j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists (pieceOf q _ ho j), fs, iprop((dst.view.loc c ↦[(dst.view.slice (s.rowRect hg.axis' j)).set]{fullShare} ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · ihave H := (Transfers.batch_creditUpdate EC (N := N) (D := grouped A) (γ := γ) (γ₀ := γ₀) (ι := κ) (g := (c, SemLoc.dma sem)) ⟨k₀ + j.val, by omega⟩
          (Entails.of_eq (by subst hk₀; rw [grouped_at A i j, hA]) : landed c src dst hg offs hn q qo fs fd fo ho hin j ⊢ grouped A ⟨k₀ + j.val, by omega⟩)) $$ [Hγj]
        · isplitr; · iexact Hinv
          iexact Hγj
        rw [← hN j]
        iexact H
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (k₀ + s.size hg.axis') * N - u = (k₀ * N - u) + s.size hg.axis' * N by rw [Nat.add_mul]; omega, ← tallyAt_add]
    icombine Hcred Hcred' as H
    iexact H

end Cert.KernelIdeal.GatherBatch
-- ==== Proof.Setup.lean ====
module
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Defs
public import proofs.«01_k».proof.Proof.Gen.KernelIdeal
public import proofs.«01_k».proof.Proof.Gen.KernelIdeal.Skeleton
public import proofs.«01_k».proof.Proof.GatherBatch

/-! The program as the launch theorem sees it, the ghost state of the proof, and names for the buffers. -/

@[expose] public section
noncomputable section

namespace Cert.Gmf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, the transfers' counters -/

abbrev UH : Type := URounds (GSem nD τ sig) ℕ
abbrev UU : Type := UH × Counters

/-- The assertions of the proof live over this state. -/
abbrev MM (F : FTy → Type) : Type := MT nD τ sig (HIx 1) (Elt F) ℕ UU ℕ

abbrev EH : Emb UH (MT nD τ sig (HIx 1) (Elt F) ℕ UU ℕ) := embL

/-! ## The subcore at a coordinate of the grid -/

abbrev cV (L : grid0.Coords) : Fin τ.nSC := (L 0).castLE hcore0
abbrev jV (L : grid0.Coords) : Fin τ.nSub := (L 1).castLE hsub0
/-- The thread of the kernel at the coordinate `L` on device `d`. -/
abbrev at_ (d : Dev nD) (L : grid0.Coords) : Thread nD τ := V d (cV L) (jV L)

/-! ## The buffers as the kernel names them -/

abbrev mUsers : Memref sig .scVector .hbm S16384 .i32 := Memref.whole main_arg0_scv
abbrev mItems : Memref sig .scVector .hbm S16384 .i32 := Memref.whole main_arg1_scv
abbrev mUTab : Memref sig .scVector .hbm S100000x128 .f32 := Memref.whole main_arg2_scv
abbrev mITab : Memref sig .scVector .hbm S100000x128 .f32 := Memref.whole main_arg3_scv
abbrev mW : Memref sig .scVector .hbm S128 .f32 := Memref.whole main_v0_scv
abbrev mB : Memref sig .scVector .hbm S1 .f32 := Memref.whole main_arg5_scv
abbrev mOut : Memref sig .scVector .hbm S16384 .f32 := Memref.whole main_v1_scv
abbrev sUI : Memref sig .scVector .vmem S512 .i32 := Memref.whole cc0_scratch0
abbrev sII : Memref sig .scVector .vmem S512 .i32 := Memref.whole cc0_scratch1
abbrev sU0 : Memref sig .scVector .vmem S128x128 .f32 := Memref.whole cc0_scratch2
abbrev sU1 : Memref sig .scVector .vmem S128x128 .f32 := Memref.whole cc0_scratch3
abbrev sI0 : Memref sig .scVector .vmem S128x128 .f32 := Memref.whole cc0_scratch4
abbrev sI1 : Memref sig .scVector .vmem S128x128 .f32 := Memref.whole cc0_scratch5
abbrev sW : Memref sig .scVector .vmem S128 .f32 := Memref.whole cc0_scratch6
abbrev sB : Memref sig .scVector .vmem S17 .f32 := Memref.whole cc0_scratch7
abbrev sQ : Memref sig .scVector .vmem S512 .f32 := Memref.whole cc0_scratch8
abbrev sOut : Memref sig .scVector .vmem S512 .f32 := Memref.whole cc0_scratch9
abbrev sPerm : Memref sig .scVector .vmem S16 .f32 := Memref.whole cc0_scratch10

end Cert.Gmf
-- ==== Proof.Lanes.lean ====
module
public import proofs.«01_k».proof.Proof.Setup

/-! What one trip of the kernel's loops computes, over the vectors it reads. -/

@[expose] public section
noncomputable section

namespace Cert.Gmf

open Cert.KernelIdeal Cert.KernelIdeal.Gen
open Idealize.ShloMosaic

variable {F : FTy → Type} [FloatOps F]

/-- A vector of sixteen lanes. -/
abbrev Lane (F : FTy → Type) : Type := FVec F S16 .f32
/-- A permutation of the lanes, as the vector of the lanes to read. -/
abbrev Perm : Type := IVec S16 32
/-- Every lane named is one of the sixteen. -/
abbrev Perm.Ok (p : Perm) : Prop := ∀ a x, ((![p] : Fin 1 → IVec S16 32) a x).toNat < S16.size a

/-- The lanes of `x` in the order `p` names. -/
def permute (p : Perm) (h : p.Ok) (x : Lane F) : Lane F := loadIdx (F := F) (s := S16) (t := S16) (e := .f32) x ![p] h

/-- The element at row `r`, column `c`. -/
def cell (r c : Fin 128) : S128x128.Idx := fun a => match a with | 0 => r | 1 => c

/-- Lane `l` of the piece `j` of a row. -/
def col (j : Fin 8) (l : Fin 16) : Fin 128 := ⟨16 * j.val + l.val, by omega⟩

/-- Sixteen lanes of row `r` from column `16 * j` on. -/
def piece16 (g : S128x128.Idx → F .f32) (r : Fin 128) (j : Fin 8) : Lane F := fun x => g (cell r (col j (x 0)))

/-- One more product added: `a + (u * i) * w`, lane by lane. -/
def addProd (a u i w : Lane F) : Lane F := addf a (mulf (mulf u i) w)

/-- A row's sixteen partial sums: from the bias vector, the eight products of its eight pieces. -/
def rowSum (b : Lane F) (w u i : Fin 8 → Lane F) : Lane F :=
  addProd (addProd (addProd (addProd (addProd (addProd (addProd (addProd b (u 0) (i 0) (w 0)) (u 1) (i 1) (w 1)) (u 2) (i 2) (w 2))
    (u 3) (i 3) (w 3)) (u 4) (i 4) (w 4)) (u 5) (i 5) (w 5)) (u 6) (i 6) (w 6)) (u 7) (i 7) (w 7)

/-- Two vectors folded by a permutation and put together by a mask. -/
def fold2 (m : IVec S16 1) (p : Perm) (h : p.Ok) (a b : Lane F) : Lane F :=
  select m (addf a (permute p h a)) (addf b (permute p h b))

/-- The masks and permutations the kernel builds once. -/
structure Net where
  (r8 r4 r2 r1 br : Perm)
  (h8 : r8.Ok) (h4 : r4.Ok) (h2 : r2.Ok) (h1 : r1.Ok) (hb : br.Ok)
  (m8 m4 m2 m1 : IVec S16 1)

/-- Four rows' partial sums folded to four lanes each. -/
def quad (N : Net) (a b c e : Lane F) : Lane F :=
  addf (fold2 N.m4 N.r4 N.h4 (fold2 N.m8 N.r8 N.h8 a b) (fold2 N.m8 N.r8 N.h8 c e))
    (permute N.r2 N.h2 (fold2 N.m4 N.r4 N.h4 (fold2 N.m8 N.r8 N.h8 a b) (fold2 N.m8 N.r8 N.h8 c e)))

/-- Four such vectors folded to one lane a row, sixteen rows in order. -/
def merge (N : Net) (a b c e : Lane F) : Lane F :=
  permute N.br N.hb (fold2 N.m1 N.r1 N.h1 (select N.m2 a b) (select N.m2 c e))

/-- Row `4 * t + k`. -/
def rowOf4 (t : Fin 32) (k : Fin 4) : Fin 128 := ⟨4 * t.val + k.val, by omega⟩

/-- Rows `4 * t` to `4 * t + 3` of the gathered tables. -/
def quadAt (N : Net) (b : Lane F) (w : Fin 8 → Lane F) (u i : S128x128.Idx → F .f32) (t : Fin 32) : Lane F :=
  quad N (rowSum b w (piece16 u (rowOf4 t 0)) (piece16 i (rowOf4 t 0))) (rowSum b w (piece16 u (rowOf4 t 1)) (piece16 i (rowOf4 t 1)))
    (rowSum b w (piece16 u (rowOf4 t 2)) (piece16 i (rowOf4 t 2))) (rowSum b w (piece16 u (rowOf4 t 3)) (piece16 i (rowOf4 t 3)))

/-- Word `n` of five hundred and twelve. -/
def spot (n : Nat) (h : n < 512) : S512.Idx := fun a => match a with | 0 => ⟨n, h⟩

/-- Lane `n` of sixteen. -/
def lane (n : Nat) (h : n < 16) : S16.Idx := fun a => match a with | 0 => ⟨n, h⟩

/-- Sixteen words from word `n` on. -/
def words16 (q : S512.Idx → F .f32) (n : Nat) (h : n + 16 ≤ 512) : Lane F :=
  fun x => q (spot (n + (x 0).val) (by have hx : (x 0).val < 16 := (x 0).isLt; omega))

/-- A load of sixteen lanes of one row, as a vector of lanes. -/
theorem piece16_eq (g : S128x128.Idx → F .f32) (off : Fin 2 → Nat) (h) (r : Fin 128) (j : Fin 8)
    (e : off = ![r.val, 16 * j.val]) :
    shapeCast S16 (fun x => g ((Rect.unit (s := S128x128) off S1x16.size h).emb x)) shapeCasts_S1x16_S16 = piece16 g r j := by
  subst e
  funext x
  refine (shapeCast_dropUnit_apply (n := 1) ![16] _ shapeCasts_S1x16_S16 x).trans ?_
  unfold piece16
  refine congrArg g (funext fun a => Fin.ext ?_)
  match a with
  | 0 => simp [Rect.emb, Rect.unit, cell]; rfl
  | 1 => simp [Rect.emb, Rect.unit, cell, col]; rfl

end Cert.Gmf
-- ==== Proof.Quad.lean ====
module
public import proofs.«01_k».proof.Proof.Lanes
public import Idealize.ShloMosaic.Lib.WritesUnit

/-! The loop over a chunk's rows, four rows a trip. -/

@[expose] public section
noncomputable section

namespace Cert.Gmf

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- What the kernel's prologue computes and its loops read. -/
structure Pro (F : FTy → Type) where
  b : Lane F
  w : Fin 8 → Lane F
  (r8 r4 r2 r1 br : Perm)
  (h8 : k0_chk1 r8) (h4 : k0_chk2 r4) (h2 : k0_chk3 r2) (h1 : k0_chk4 r1) (hb : k0_chk5 br)
  (m8 m4 m2 m1 : IVec S16 1)

/-- The permutations and masks of it. -/
def Pro.net (X : Pro F) : Net where
  r8 := X.r8
  r4 := X.r4
  r2 := X.r2
  r1 := X.r1
  br := X.br
  h8 := k0_idx1_inb _ X.h8
  h4 := k0_idx5_inb _ X.h4
  h2 := k0_idx7_inb _ X.h2
  h1 := k0_idx8_inb _ X.h1
  hb := k0_idx10_inb _ X.hb
  m8 := X.m8
  m4 := X.m4
  m2 := X.m2
  m1 := X.m1

/-- One trip of the row loop over the row buffers `a` and `b`; the other pair is `a'` and `b'`. -/
def quadTrip (L : grid0.Coords) (a a' b b' : Memref sig .scVector .vmem S128x128 .f32) (ha : a.IsWhole) (ha' : a'.IsWhole) (hb : b.IsWhole) (hb' : b'.IsWhole)
    (X : Pro F) :=
  k0_t1_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    a ha a' ha' b hb b' hb' sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.r1 X.h1 X.br X.hb X.m8 X.m4 X.m2 X.m1

/-- The second chunk's loop runs the same trips on the other pair of row buffers. -/
theorem trip3_eq (L : grid0.Coords) (X : Pro F) :
  k0_t3_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.m8 X.m4
  = quadTrip L sU1 sU0 sI1 sI0 (Memref.isWhole_whole _) (Memref.isWhole_whole _) (Memref.isWhole_whole _) (Memref.isWhole_whole _) X := rfl

/-- A read out of the sixteen-word buffer through lanes named by a permutation, right after the vector `v` was stored to it. -/
theorem wp_permute (d : Dev nD) (L : grid0.Coords) (p : Perm) (h : p.Ok) {hl : sPerm.view.Loads}
    {fp : Buf (Elt F) (sPerm.view.loc (at_ d L))} {v : Lane F} {ps : List (View.Piece (Elt F) S16 .f32)} {α : Type}
    {k : Lane F → Prog (TpuEff nD τ sig (Elt F) Λ₀ (at_ d L).2) α} {Q : α → sProp (MM F)} :
    (iprop(sPerm.view.loc (at_ d L) ↦{fullShare} sPerm.view.writes (Elt F) fp (⟨Rect.unit ![0] S16.size inb_S16_S16_0, v⟩ :: ps)) : sProp (MM F))
    ⊢ iprop(((∃ f, sPerm.view.loc (at_ d L) ↦{fullShare} f) -∗ wp frame (wpE (defs₀ (F := F)) 𝒱₀ (at_ d L) none) Set.univ (k (permute p h v)) Q)
      -∗ wp frame (wpE (defs₀ (F := F)) 𝒱₀ (at_ d L) none) Set.univ (SparseCore.vectorLoadIdx sPerm ![p] h hl >>= k) Q) := by
  have e : (sPerm.access (.whole S16)).read (Elt F) (sPerm.view.writes (Elt F) fp (⟨Rect.unit ![0] S16.size inb_S16_S16_0, v⟩ :: ps)) = v := by
    funext y
    refine (View.read_writes_cons_unit_of_mem sPerm.view fp inb_S16_S16_0 v ps ((Rect.whole S16).emb y) y rfl fun a => ?_)
    match a with
    | 0 => simp [Rect.emb, Rect.whole]
  iintro Hp Hk
  iapply (SparseCore.wp_vectorLoadIdx 𝒱₀ (at_ d L) none Set.univ (base := sPerm) (idxs := ![p]) (h := h) (S := Finset.univ) (Finset.subset_univ _)) $$ Hp
  iintro Hp
  rw [e]
  iapply Hk
  iexists _
  iexact Hp

/-- A load of sixteen lanes of one row. -/
theorem piece_read {d : Dev nD} {L : grid0.Coords} (a : Memref sig .scVector .vmem S128x128 .f32) (f : Buf (Elt F) (a.view.loc (at_ d L))) (off : Fin 2 → Nat) (h) (r : Fin 128) (j : Fin 8)
    (e : off = ![r.val, 16 * j.val]) :
    shapeCast S16 (a.view.readAt (Elt F) (Rect.unit (s := S128x128) off S1x16.size h).toLoadRect f) shapeCasts_S1x16_S16
      = piece16 (a.view.read (Elt F) f) r j := piece16_eq _ off h r j e

set_option maxHeartbeats 2000000 in
/-- One trip leaves the folded sums of its four rows in the trip's sixteen words. -/
theorem quad_step (d : Dev nD) (L : grid0.Coords) (a a' b b' : Memref sig .scVector .vmem S128x128 .f32) (ha : a.IsWhole) (ha' : a'.IsWhole) (hb : b.IsWhole) (hb' : b'.IsWhole)
    (X : Pro F) (t : Fin k0_t1_loop.trips)
    (fa : Buf (Elt F) (a.view.loc (at_ d L))) (fb : Buf (Elt F) (b.view.loc (at_ d L)))
    (fq : Buf (Elt F) (sQ.view.loc (at_ d L))) (fp : Buf (Elt F) (sPerm.view.loc (at_ d L))) :
    (iprop((a.view.loc (at_ d L) ↦[a.view.set]{fullShare} fa) ∗ (b.view.loc (at_ d L) ↦[b.view.set]{fullShare} fb)
      ∗ (sQ.view.loc (at_ d L) ↦{fullShare} fq) ∗ (sPerm.view.loc (at_ d L) ↦{fullShare} fp)) : sProp (MM F))
    ⊢ wp frame (wpE (defs₀ (F := F)) 𝒱₀ (at_ d L) none) Set.univ (quadTrip L a a' b b' ha ha' hb hb' X t ⟨⟩)
      fun _ => iprop((a.view.loc (at_ d L) ↦[a.view.set]{fullShare} fa) ∗ (b.view.loc (at_ d L) ↦[b.view.set]{fullShare} fb)
      ∗ (sQ.view.loc (at_ d L) ↦{fullShare} sQ.view.writes (Elt F) fq
          [⟨Rect.unit (k0_off18 t) S16.size (k0_off18_inb t), quadAt X.net X.b X.w (a.view.read (Elt F) fa) (b.view.read (Elt F) fb) t⟩])
      ∗ (∃ f, sPerm.view.loc (at_ d L) ↦{fullShare} f)) := by
  iintro ⟨Ha, Hb, Hq, Hp⟩
  sl_unfold [quadTrip, k0_t1_body]
  sl_exec
  iapply (wp_permute d L _ _) $$ Hp
  iintro ⟨%f1, Hp⟩
  sl_exec
  iapply (wp_permute d L _ _) $$ Hp
  iintro ⟨%f2, Hp⟩
  sl_exec
  iapply (wp_permute d L _ _) $$ Hp
  iintro ⟨%f3, Hp⟩
  sl_exec
  iapply (wp_permute d L _ _) $$ Hp
  iintro ⟨%f4, Hp⟩
  sl_exec
  iapply (wp_permute d L _ _) $$ Hp
  iintro ⟨%f5, Hp⟩
  sl_exec
  iapply (wp_permute d L _ _) $$ Hp
  iintro ⟨%f6, Hp⟩
  sl_exec
  iapply (wp_permute d L _ _) $$ Hp
  iintro ⟨%f7, Hp⟩
  sl_exec
  rw [wp_ret]
  have h0 : quad_step.sl.r_1 d L a b X t fa fb
      = rowSum X.b X.w (piece16 (a.view.read (Elt F) fa) (rowOf4 t 0)) (piece16 (b.view.read (Elt F) fb) (rowOf4 t 0)) := by
    delta quad_step.sl.r_1 quad_step.sl.r
    simp only [k0_pay3, k0_pay4, k0_pay5, k0_pay6, k0_pay7, k0_pay8, k0_pay9, k0_pay10, k0_pay11, k0_pay12, k0_pay13, k0_pay14, k0_pay15, k0_pay16, k0_pay17,
      piece_read (r := rowOf4 t 0) (j := 0) (e := k0_off2_eq t),
      piece_read (r := rowOf4 t 0) (j := 1) (e := k0_off3_eq t),
      piece_read (r := rowOf4 t 0) (j := 2) (e := k0_off4_eq t),
      piece_read (r := rowOf4 t 0) (j := 3) (e := k0_off5_eq t),
      piece_read (r := rowOf4 t 0) (j := 4) (e := k0_off6_eq t),
      piece_read (r := rowOf4 t 0) (j := 5) (e := k0_off7_eq t),
      piece_read (r := rowOf4 t 0) (j := 6) (e := k0_off8_eq t),
      piece_read (r := rowOf4 t 0) (j := 7) (e := k0_off9_eq t)]
    rfl
  have h1 : quad_step.sl.r_7 d L a b X t fa fb
      = rowSum X.b X.w (piece16 (a.view.read (Elt F) fa) (rowOf4 t 1)) (piece16 (b.view.read (Elt F) fb) (rowOf4 t 1)) := by
    delta quad_step.sl.r_7 quad_step.sl.r_4 quad_step.sl.r_5 quad_step.sl.r_6 quad_step.sl.r_2 quad_step.sl.r_3
    simp only [k0_pay3, k0_pay4, k0_pay5, k0_pay6, k0_pay7, k0_pay8, k0_pay9, k0_pay10, k0_pay11, k0_pay12, k0_pay13, k0_pay14, k0_pay15, k0_pay16, k0_pay17,
      piece_read (r := rowOf4 t 1) (j := 0) (off := k0_off10 t 1#32) (e := k0_off10_eq t 0),
      piece_read (r := rowOf4 t 1) (j := 1) (off := k0_off11 t 1#32) (e := k0_off11_eq t 0),
      piece_read (r := rowOf4 t 1) (j := 2) (off := k0_off12 t 1#32) (e := k0_off12_eq t 0),
      piece_read (r := rowOf4 t 1) (j := 3) (off := k0_off13 t 1#32) (e := k0_off13_eq t 0),
      piece_read (r := rowOf4 t 1) (j := 4) (off := k0_off14 t 1#32) (e := k0_off14_eq t 0),
      piece_read (r := rowOf4 t 1) (j := 5) (off := k0_off15 t 1#32) (e := k0_off15_eq t 0),
      piece_read (r := rowOf4 t 1) (j := 6) (off := k0_off16 t 1#32) (e := k0_off16_eq t 0),
      piece_read (r := rowOf4 t 1) (j := 7) (off := k0_off17 t 1#32) (e := k0_off17_eq t 0)]
    rfl
  have h2 : quad_step.sl.r_10 d L a b X t fa fb
      = rowSum X.b X.w (piece16 (a.view.read (Elt F) fa) (rowOf4 t 2)) (piece16 (b.view.read (Elt F) fb) (rowOf4 t 2)) := by
    delta quad_step.sl.r_10 quad_step.sl.r_8 quad_step.sl.r_9
    simp only [k0_pay3, k0_pay4, k0_pay5, k0_pay6, k0_pay7, k0_pay8, k0_pay9, k0_pay10, k0_pay11, k0_pay12, k0_pay13, k0_pay14, k0_pay15, k0_pay16, k0_pay17,
      piece_read (r := rowOf4 t 2) (j := 0) (off := k0_off10 t 2#32) (e := k0_off10_eq t 1),
      piece_read (r := rowOf4 t 2) (j := 1) (off := k0_off11 t 2#32) (e := k0_off11_eq t 1),
      piece_read (r := rowOf4 t 2) (j := 2) (off := k0_off12 t 2#32) (e := k0_off12_eq t 1),
      piece_read (r := rowOf4 t 2) (j := 3) (off := k0_off13 t 2#32) (e := k0_off13_eq t 1),
      piece_read (r := rowOf4 t 2) (j := 4) (off := k0_off14 t 2#32) (e := k0_off14_eq t 1),
      piece_read (r := rowOf4 t 2) (j := 5) (off := k0_off15 t 2#32) (e := k0_off15_eq t 1),
      piece_read (r := rowOf4 t 2) (j := 6) (off := k0_off16 t 2#32) (e := k0_off16_eq t 1),
      piece_read (r := rowOf4 t 2) (j := 7) (off := k0_off17 t 2#32) (e := k0_off17_eq t 1)]
    rfl
  have h3 : k0_pay17 (X.w 7) (quad_step.sl.r_13 d L a b X t fa fb) (quad_step.sl.r_14 d L a t fa)
        (b.view.readAt (Elt F) (Rect.unit (s := S128x128) (k0_off17 t 3#32) S1x16.size (k0_off17_inb t 2)).toLoadRect fb)
      = rowSum X.b X.w (piece16 (a.view.read (Elt F) fa) (rowOf4 t 3)) (piece16 (b.view.read (Elt F) fb) (rowOf4 t 3)) := by
    delta quad_step.sl.r_13 quad_step.sl.r_14 quad_step.sl.r_11 quad_step.sl.r_12
    simp only [k0_pay3, k0_pay4, k0_pay5, k0_pay6, k0_pay7, k0_pay8, k0_pay9, k0_pay10, k0_pay11, k0_pay12, k0_pay13, k0_pay14, k0_pay15, k0_pay16, k0_pay17,
      piece_read (r := rowOf4 t 3) (j := 0) (off := k0_off10 t 3#32) (e := k0_off10_eq t 2),
      piece_read (r := rowOf4 t 3) (j := 1) (off := k0_off11 t 3#32) (e := k0_off11_eq t 2),
      piece_read (r := rowOf4 t 3) (j := 2) (off := k0_off12 t 3#32) (e := k0_off12_eq t 2),
      piece_read (r := rowOf4 t 3) (j := 3) (off := k0_off13 t 3#32) (e := k0_off13_eq t 2),
      piece_read (r := rowOf4 t 3) (j := 4) (off := k0_off14 t 3#32) (e := k0_off14_eq t 2),
      piece_read (r := rowOf4 t 3) (j := 5) (off := k0_off15 t 3#32) (e := k0_off15_eq t 2),
      piece_read (r := rowOf4 t 3) (j := 6) (off := k0_off16 t 3#32) (e := k0_off16_eq t 2),
      piece_read (r := rowOf4 t 3) (j := 7) (off := k0_off17 t 3#32) (e := k0_off17_eq t 2)]
    rfl
  have hv : k0_pay147 (quad_step.sl.r_15 d L a b X t fa fb) = quadAt X.net X.b X.w (a.view.read (Elt F) fa) (b.view.read (Elt F) fb) t := by
    delta quad_step.sl.r_15
    simp only [k0_pay18, k0_pay19, k0_pay20, k0_pay21, k0_pay22, k0_pay23, k0_pay24, k0_pay25, k0_pay26, k0_pay27, k0_pay28, k0_pay147, shapeCast_self, h0, h1, h2, h3]
    rfl
  rw [hv]
  imodintro
  iframe
  iexists _
  iexact Hp

end Cert.Gmf
-- ==== Proof.Loops.lean ====
module
public import proofs.«01_k».proof.Proof.Quad

/-! The loops of the kernel's body: over a chunk's rows, four rows a trip, and over the folded sums, sixteen rows a trip. -/

@[expose] public section
noncomputable section

namespace Cert.Gmf

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The row loop -/

/-- The word at `y` once its trip has run: lane `y % 16` of the folded sums of rows `4 * (y / 16)` on. -/
def folded (N : Net) (b : Lane F) (w : Fin 8 → Lane F) (u i : S128x128.Idx → F .f32) (y : S512.Idx) : F .f32 :=
  quadAt N b w u i ⟨(y 0).val / 16, by have h : (y 0).val < 512 := (y 0).isLt; omega⟩ (lane ((y 0).val % 16) (Nat.mod_lt _ (by decide)))

/-- One more trip fills sixteen more words. -/
theorem folded_step (N : Net) (b : Lane F) (w : Fin 8 → Lane F) (u i : S128x128.Idx → F .f32) {d : Dev nD} {L : grid0.Coords} (t : Fin 32)
    (f : Buf (Elt F) (sQ.view.loc (at_ d L))) (hf : ∀ y : S512.Idx, (y 0).val < 16 * t.val → sQ.view.read (Elt F) f y = folded N b w u i y)
    (off : Fin 1 → Nat) (hi) (e : off = ![16 * t.val]) (y : S512.Idx) (hy : (y 0).val < 16 * (t.val + 1)) :
    sQ.view.read (Elt F) (sQ.view.writes (Elt F) f [⟨Rect.unit (s := S512) off S16.size hi, quadAt N b w u i t⟩]) y = folded N b w u i y := by
  rw [View.read_writes_cons_unit sQ.view f hi _ [] y e]
  split
  · next h =>
    have h0 := h 0
    have h1 : 16 * t.val ≤ (y 0).val := h0.1
    unfold folded
    have e1 : (⟨(y 0).val / 16, by have h : (y 0).val < 512 := (y 0).isLt; omega⟩ : Fin 32) = t := Fin.ext (by show (y 0).val / 16 = t.val; omega)
    rw [e1]
    refine congrArg (quadAt N b w u i t) (funext fun a => Fin.ext ?_)
    match a with
    | 0 => show (y 0).val - 16 * t.val = (y 0).val % 16; omega
  · next h =>
    refine hf y ?_
    by_contra hlt
    refine h fun a => ?_
    match a with
    | 0 => exact ⟨by show 16 * t.val ≤ (y 0).val; omega, by show (y 0).val < 16 * t.val + 16; omega⟩

/-- What the row loop holds before trip `k`. -/
def rowsInv (d : Dev nD) (L : grid0.Coords) (a b : Memref sig .scVector .vmem S128x128 .f32) (X : Pro F)
    (fa : Buf (Elt F) (a.view.loc (at_ d L))) (fb : Buf (Elt F) (b.view.loc (at_ d L))) (k : Nat) (_ : Unit) : sProp (MM F) :=
  iprop((a.view.loc (at_ d L) ↦[a.view.set]{fullShare} fa) ∗ (b.view.loc (at_ d L) ↦[b.view.set]{fullShare} fb)
    ∗ (∃ f, (sQ.view.loc (at_ d L) ↦{fullShare} f)
        ∗ ⌜∀ y : S512.Idx, (y 0).val < 16 * k → sQ.view.read (Elt F) f y = folded X.net X.b X.w (a.view.read (Elt F) fa) (b.view.read (Elt F) fb) y⌝)
    ∗ (∃ f, sPerm.view.loc (at_ d L) ↦{fullShare} f))

/-- The row loop at the head of a program: afterwards every word of the folded sums is its value. -/
theorem wp_rows (d : Dev nD) (L : grid0.Coords) (a a' b b' : Memref sig .scVector .vmem S128x128 .f32) (ha : a.IsWhole) (ha' : a'.IsWhole) (hb : b.IsWhole) (hb' : b'.IsWhole)
    (X : Pro F) (fa : Buf (Elt F) (a.view.loc (at_ d L))) (fb : Buf (Elt F) (b.view.loc (at_ d L)))
    {α : Type} {kk : Unit → Prog (TpuEff nD τ sig (Elt F) Λ₀ (at_ d L).2) α} {Q : α → sProp (MM F)} :
    rowsInv d L a b X fa fb 0 ⟨⟩
    ⊢ iprop((rowsInv d L a b X fa fb 32 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t1_loop k0_t1_ok ⟨⟩ (quadTrip L a a' b b' ha ha' hb hb' X) >>= kk) Q) := by
  iintro H Hk
  iapply (Scf.wp_for_bind frame (wpE (defs₀ (F := F)) 𝒱₀ (at_ d L) none) Set.univ k0_t1_loop.lb k0_t1_loop.ub k0_t1_loop.st k0_t1_ok ⟨⟩
    (quadTrip L a a' b b' ha ha' hb hb' X) (rowsInv d L a b X fa fb) ?_) $$ H
  · intro t _
    unfold rowsInv
    iintro ⟨Ha, Hb, ⟨%fq, Hq, %hq⟩, ⟨%fp, Hp⟩⟩
    iapply (wp_wand_r frame (wpE (defs₀ (F := F)) 𝒱₀ (at_ d L) none) Set.univ)
    isplitl [Ha Hb Hq Hp]
    · iapply (quad_step d L a a' b b' ha ha' hb hb' X t fa fb fq fp)
      iframe
    · iintro %_ ⟨Ha, Hb, Hq, Hp⟩
      iframe
      iexists _
      isplitl
      · iexact Hq
      · ipureintro
        exact fun y hy => folded_step X.net X.b X.w _ _ t fq hq _ _ (k0_off18_eq t) y hy
  · iintro %_ H
    iapply Hk
    iexact H

/-- Loop 1 of the body. -/
theorem wp_rows1 (d : Dev nD) (L : grid0.Coords) (X : Pro F) (fa : Buf (Elt F) (sU0.view.loc (at_ d L))) (fb : Buf (Elt F) (sI0.view.loc (at_ d L)))
    {α : Type} {kk : Unit → Prog (TpuEff nD τ sig (Elt F) Λ₀ (at_ d L).2) α} {Q : α → sProp (MM F)} :
    rowsInv d L sU0 sI0 X fa fb 0 ⟨⟩
    ⊢ iprop((rowsInv d L sU0 sI0 X fa fb 32 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t1_loop k0_t1_ok ⟨⟩ (k0_t1_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.r1 X.h1 X.br X.hb X.m8 X.m4 X.m2 X.m1) >>= kk) Q) :=
  wp_rows d L sU0 sU1 sI0 sI1 (Memref.isWhole_whole _) (Memref.isWhole_whole _) (Memref.isWhole_whole _) (Memref.isWhole_whole _) X fa fb

/-- Loop 3 of the body. -/
theorem wp_rows3 (d : Dev nD) (L : grid0.Coords) (X : Pro F) (fa : Buf (Elt F) (sU1.view.loc (at_ d L))) (fb : Buf (Elt F) (sI1.view.loc (at_ d L)))
    {α : Type} {kk : Unit → Prog (TpuEff nD τ sig (Elt F) Λ₀ (at_ d L).2) α} {Q : α → sProp (MM F)} :
    rowsInv d L sU1 sI1 X fa fb 0 ⟨⟩
    ⊢ iprop((rowsInv d L sU1 sI1 X fa fb 32 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t3_loop k0_t3_ok ⟨⟩ (k0_t3_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.m8 X.m4) >>= kk) Q) :=
  wp_rows d L sU1 sU0 sI1 sI0 (Memref.isWhole_whole _) (Memref.isWhole_whole _) (Memref.isWhole_whole _) (Memref.isWhole_whole _) X fa fb

/-- Loop 5 of the body. -/
theorem wp_rows5 (d : Dev nD) (L : grid0.Coords) (X : Pro F) (fa : Buf (Elt F) (sU0.view.loc (at_ d L))) (fb : Buf (Elt F) (sI0.view.loc (at_ d L)))
    {α : Type} {kk : Unit → Prog (TpuEff nD τ sig (Elt F) Λ₀ (at_ d L).2) α} {Q : α → sProp (MM F)} :
    rowsInv d L sU0 sI0 X fa fb 0 ⟨⟩
    ⊢ iprop((rowsInv d L sU0 sI0 X fa fb 32 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t5_loop k0_t5_ok ⟨⟩ (k0_t5_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.r1 X.h1 X.br X.hb X.m8 X.m4 X.m2 X.m1) >>= kk) Q) :=
  wp_rows d L sU0 sU1 sI0 sI1 (Memref.isWhole_whole _) (Memref.isWhole_whole _) (Memref.isWhole_whole _) (Memref.isWhole_whole _) X fa fb

/-- Loop 7 of the body. -/
theorem wp_rows7 (d : Dev nD) (L : grid0.Coords) (X : Pro F) (fa : Buf (Elt F) (sU1.view.loc (at_ d L))) (fb : Buf (Elt F) (sI1.view.loc (at_ d L)))
    {α : Type} {kk : Unit → Prog (TpuEff nD τ sig (Elt F) Λ₀ (at_ d L).2) α} {Q : α → sProp (MM F)} :
    rowsInv d L sU1 sI1 X fa fb 0 ⟨⟩
    ⊢ iprop((rowsInv d L sU1 sI1 X fa fb 32 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t7_loop k0_t7_ok ⟨⟩ (k0_t7_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.m8 X.m4) >>= kk) Q) :=
  wp_rows d L sU1 sU0 sI1 sI0 (Memref.isWhole_whole _) (Memref.isWhole_whole _) (Memref.isWhole_whole _) (Memref.isWhole_whole _) X fa fb

/-! ## The loop over the folded sums -/

/-- The sixteen results of rows `16 * t` on, from the folded sums `q`. -/
def mergeAt (N : Net) (q : S512.Idx → F .f32) (t : Fin 8) : Lane F :=
  merge N (words16 q (64 * t.val) (by omega)) (words16 q (64 * t.val + 16) (by omega)) (words16 q (64 * t.val + 32) (by omega))
    (words16 q (64 * t.val + 48) (by omega))

/-- The value of a chunk's row `n`, as the kernel adds it up. -/
def chunkVal (N : Net) (q : S512.Idx → F .f32) (n : Fin 128) : F .f32 :=
  mergeAt N q ⟨n.val / 16, by omega⟩ (lane (n.val % 16) (Nat.mod_lt _ (by decide)))

/-- One trip of the loop over the folded sums, which stores its sixteen results at `off`. -/
def mergeTrip (L : grid0.Coords) (X : Pro F) (off : Fin k0_t2_loop.trips → Fin 1 → Nat) (hi : ∀ t a, off t a + S16.size a ≤ S512.size a)
    (t : Fin k0_t2_loop.trips) (_ : Unit) : Prog (TpuEff nD τ sig (Elt F) Λ₀ (.scVector (cV L) (jV L))) Unit := do
  let p ← k0_part8 (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.r1 X.h1 X.br X.hb X.m2 X.m1 0#32 1#32 t
  let _ : Vec F S16 .f32 ← Prog.lift (.load sOut (Rect.unit (s := S512) (off t) S16.size (hi t)).toLoadRect (View.loadsAt_vmem h_S16))
  Prog.lift (.store sOut (Rect.unit (s := S512) (off t) S16.size (hi t)) (k0_pay148 p.1) Finset.univ (View.stores_vmem_bits_univ h_S16 rfl) (.inl rfl))
  pure ⟨⟩

/-- A load of sixteen of the folded sums. -/
theorem words_read {d : Dev nD} {L : grid0.Coords} (f : Buf (Elt F) (sQ.view.loc (at_ d L))) (off : Fin 1 → Nat) (hi) (n : Nat) (hn : n + 16 ≤ 512) (e : off = ![n]) :
    sQ.view.readAt (Elt F) (Rect.unit (s := S512) off S16.size hi).toLoadRect f = words16 (sQ.view.read (Elt F) f) n hn := by
  subst e
  funext x
  unfold words16
  refine congrArg (sQ.view.read (Elt F) f) (funext fun a => Fin.ext ?_)
  match a with
  | 0 => simp [Rect.emb, Rect.unit, spot, Rect.toLoadRect]

set_option maxHeartbeats 1000000 in
/-- One trip leaves its sixteen results. -/
theorem merge_step (d : Dev nD) (L : grid0.Coords) (X : Pro F) (off : Fin k0_t2_loop.trips → Fin 1 → Nat) (hi : ∀ t a, off t a + S16.size a ≤ S512.size a)
    (t : Fin k0_t2_loop.trips)
    (fq : Buf (Elt F) (sQ.view.loc (at_ d L))) (fo : Buf (Elt F) (sOut.view.loc (at_ d L))) (fp : Buf (Elt F) (sPerm.view.loc (at_ d L))) :
    (iprop((sQ.view.loc (at_ d L) ↦{fullShare} fq) ∗ (sOut.view.loc (at_ d L) ↦{fullShare} fo) ∗ (sPerm.view.loc (at_ d L) ↦{fullShare} fp)) : sProp (MM F))
    ⊢ wp frame (wpE (defs₀ (F := F)) 𝒱₀ (at_ d L) none) Set.univ (mergeTrip L X off hi t ⟨⟩)
      fun _ => iprop((sQ.view.loc (at_ d L) ↦{fullShare} fq)
      ∗ (sOut.view.loc (at_ d L) ↦{fullShare} sOut.view.writes (Elt F) fo
          [⟨Rect.unit (off t) S16.size (hi t), mergeAt X.net (sQ.view.read (Elt F) fq) t⟩])
      ∗ (∃ f, sPerm.view.loc (at_ d L) ↦{fullShare} f)) := by
  iintro ⟨Hq, Ho, Hp⟩
  sl_unfold [mergeTrip]
  sl_exec
  iapply (wp_permute d L _ _) $$ Hp
  iintro ⟨%f1, Hp⟩
  sl_exec
  iapply (wp_permute d L _ _) $$ Hp
  iintro ⟨%f2, Hp⟩
  sl_exec
  iapply (wp_permute d L _ _) $$ Hp
  iintro ⟨%f3, Hp⟩
  sl_exec
  rw [wp_ret]
  have hv : k0_pay148 (merge_step.sl.r d L X t fq) = mergeAt X.net (sQ.view.read (Elt F) fq) t := by
    have ht : t.val < 8 := t.isLt
    delta merge_step.sl.r
    simp only [k0_pay29, k0_pay30, k0_pay31, k0_pay32, k0_pay33, k0_pay148, shapeCast_self,
      words_read (n := 64 * t.val) (hn := by omega) (e := k0_off19_eq t),
      words_read (n := 64 * t.val + 16) (hn := by omega) (off := k0_off20 t 1#32) (e := k0_off20_eq t 0),
      words_read (n := 64 * t.val + 32) (hn := by omega) (off := k0_off20 t 2#32) (e := k0_off20_eq t 1),
      words_read (n := 64 * t.val + 48) (hn := by omega) (off := k0_off20 t 3#32) (e := k0_off20_eq t 2)]
    rfl
  rw [hv]
  imodintro
  iframe
  iexists _
  iexact Hp

/-- What the loop over the folded sums holds before trip `k`, over the words `fo` it began with. -/
def sumsInv (d : Dev nD) (L : grid0.Coords) (X : Pro F) (c : Fin 4)
    (fq : Buf (Elt F) (sQ.view.loc (at_ d L))) (fo : Buf (Elt F) (sOut.view.loc (at_ d L))) (k : Nat) (_ : Unit) : sProp (MM F) :=
  iprop((sQ.view.loc (at_ d L) ↦{fullShare} fq)
    ∗ (∃ f, (sOut.view.loc (at_ d L) ↦{fullShare} f)
        ∗ ⌜∀ (y : S512.Idx), ((h : 128 * c.val ≤ (y 0).val ∧ (y 0).val < 128 * c.val + 16 * k ∧ 16 * k ≤ 128) →
              sOut.view.read (Elt F) f y = chunkVal X.net (sQ.view.read (Elt F) fq) ⟨(y 0).val - 128 * c.val, by omega⟩)
            ∧ ((y 0).val < 128 * c.val → sOut.view.read (Elt F) f y = sOut.view.read (Elt F) fo y)⌝)
    ∗ (∃ f, sPerm.view.loc (at_ d L) ↦{fullShare} f))

/-- One more trip stores sixteen more results. -/
theorem sums_step (N : Net) (q : S512.Idx → F .f32) {d : Dev nD} {L : grid0.Coords} (c : Fin 4) (t : Fin 8)
    (f fo : Buf (Elt F) (sOut.view.loc (at_ d L)))
    (hf : ∀ (y : S512.Idx), ((h : 128 * c.val ≤ (y 0).val ∧ (y 0).val < 128 * c.val + 16 * t.val ∧ 16 * t.val ≤ 128) →
              sOut.view.read (Elt F) f y = chunkVal N q ⟨(y 0).val - 128 * c.val, by omega⟩)
            ∧ ((y 0).val < 128 * c.val → sOut.view.read (Elt F) f y = sOut.view.read (Elt F) fo y))
    (off : Fin 1 → Nat) (hi) (e : off = ![16 * t.val + 128 * c.val]) (y : S512.Idx) :
    ((h : 128 * c.val ≤ (y 0).val ∧ (y 0).val < 128 * c.val + 16 * (t.val + 1) ∧ 16 * (t.val + 1) ≤ 128) →
              sOut.view.read (Elt F) (sOut.view.writes (Elt F) f [⟨Rect.unit (s := S512) off S16.size hi, mergeAt N q t⟩]) y
                = chunkVal N q ⟨(y 0).val - 128 * c.val, by omega⟩)
            ∧ ((y 0).val < 128 * c.val →
              sOut.view.read (Elt F) (sOut.view.writes (Elt F) f [⟨Rect.unit (s := S512) off S16.size hi, mergeAt N q t⟩]) y = sOut.view.read (Elt F) fo y) := by
  rw [View.read_writes_cons_unit sOut.view f hi _ [] y e]
  split
  · next h =>
    have h1 : 16 * t.val + 128 * c.val ≤ (y 0).val := (h 0).1
    have h2 : (y 0).val < 16 * t.val + 128 * c.val + 16 := (h 0).2
    refine ⟨fun hy => ?_, fun hy => by omega⟩
    unfold chunkVal
    have e1 : (⟨((y 0).val - 128 * c.val) / 16, by omega⟩ : Fin 8) = t := Fin.ext (by show ((y 0).val - 128 * c.val) / 16 = t.val; omega)
    rw [e1]
    refine congrArg (mergeAt N q t) (funext fun a => Fin.ext ?_)
    match a with
    | 0 => show (y 0).val - (16 * t.val + 128 * c.val) = ((y 0).val - 128 * c.val) % 16; omega
  · next h =>
    refine ⟨fun hy => (hf y).1 ⟨hy.1, ?_, by omega⟩, (hf y).2⟩
    by_contra hlt
    refine h fun a => ?_
    match a with
    | 0 => exact ⟨by show 16 * t.val + 128 * c.val ≤ (y 0).val; omega, by show (y 0).val < 16 * t.val + 128 * c.val + 16; omega⟩

/-- The loop over the folded sums at the head of a program. -/
theorem wp_sums (d : Dev nD) (L : grid0.Coords) (X : Pro F) (c : Fin 4) (off : Fin k0_t2_loop.trips → Fin 1 → Nat) (hi : ∀ t a, off t a + S16.size a ≤ S512.size a)
    (e : ∀ t, off t = ![16 * t.val + 128 * c.val])
    (fq : Buf (Elt F) (sQ.view.loc (at_ d L))) (fo : Buf (Elt F) (sOut.view.loc (at_ d L)))
    {α : Type} {kk : Unit → Prog (TpuEff nD τ sig (Elt F) Λ₀ (at_ d L).2) α} {Q : α → sProp (MM F)} :
    sumsInv d L X c fq fo 0 ⟨⟩
    ⊢ iprop((sumsInv d L X c fq fo 8 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t2_loop k0_t2_ok ⟨⟩ (mergeTrip L X off hi) >>= kk) Q) := by
  iintro H Hk
  iapply (Scf.wp_for_bind frame (wpE (defs₀ (F := F)) 𝒱₀ (at_ d L) none) Set.univ k0_t2_loop.lb k0_t2_loop.ub k0_t2_loop.st k0_t2_ok ⟨⟩
    (mergeTrip L X off hi) (sumsInv d L X c fq fo) ?_) $$ H
  · intro t _
    unfold sumsInv
    iintro ⟨Hq, ⟨%f, Ho, %hf⟩, ⟨%fp, Hp⟩⟩
    iapply (wp_wand_r frame (wpE (defs₀ (F := F)) 𝒱₀ (at_ d L) none) Set.univ)
    isplitl [Hq Ho Hp]
    · iapply (merge_step d L X off hi t fq f fp)
      iframe
    · iintro %_ ⟨Hq, Ho, Hp⟩
      iframe
      iexists _
      isplitl
      · iexact Ho
      · ipureintro
        exact fun y => sums_step X.net _ c t f fo hf _ _ (e t) y
  · iintro %_ H
    iapply Hk
    iexact H

/-- Loop 2 of the body. -/
theorem wp_sums2 (d : Dev nD) (L : grid0.Coords) (X : Pro F) (fq : Buf (Elt F) (sQ.view.loc (at_ d L))) (fo : Buf (Elt F) (sOut.view.loc (at_ d L)))
    {α : Type} {kk : Unit → Prog (TpuEff nD τ sig (Elt F) Λ₀ (at_ d L).2) α} {Q : α → sProp (MM F)} :
    sumsInv d L X 0 fq fo 0 ⟨⟩
    ⊢ iprop((sumsInv d L X 0 fq fo 8 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t2_loop k0_t2_ok ⟨⟩ (k0_t2_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.r1 X.h1 X.br X.hb X.m8 X.m4 X.m2 X.m1) >>= kk) Q) :=
  wp_sums d L X 0 k0_off21 k0_off21_inb (fun t => (k0_off21_eq t).trans rfl) fq fo

/-- Loop 4 of the body. -/
theorem wp_sums4 (d : Dev nD) (L : grid0.Coords) (X : Pro F) (fq : Buf (Elt F) (sQ.view.loc (at_ d L))) (fo : Buf (Elt F) (sOut.view.loc (at_ d L)))
    {α : Type} {kk : Unit → Prog (TpuEff nD τ sig (Elt F) Λ₀ (at_ d L).2) α} {Q : α → sProp (MM F)} :
    sumsInv d L X 1 fq fo 0 ⟨⟩
    ⊢ iprop((sumsInv d L X 1 fq fo 8 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t4_loop k0_t4_ok ⟨⟩ (k0_t4_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.r1 X.h1 X.br X.hb X.m2 X.m1 0#32) >>= kk) Q) :=
  wp_sums d L X 1 k0_off41 k0_off41_inb (fun t => (k0_off41_eq t).trans rfl) fq fo

/-- Loop 6 of the body. -/
theorem wp_sums6 (d : Dev nD) (L : grid0.Coords) (X : Pro F) (fq : Buf (Elt F) (sQ.view.loc (at_ d L))) (fo : Buf (Elt F) (sOut.view.loc (at_ d L)))
    {α : Type} {kk : Unit → Prog (TpuEff nD τ sig (Elt F) Λ₀ (at_ d L).2) α} {Q : α → sProp (MM F)} :
    sumsInv d L X 2 fq fo 0 ⟨⟩
    ⊢ iprop((sumsInv d L X 2 fq fo 8 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t6_loop k0_t6_ok ⟨⟩ (k0_t6_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.b (X.w 0) (X.w 1) (X.w 2) (X.w 3) (X.w 4) (X.w 5) (X.w 6) (X.w 7) X.r8 X.h8 X.r4 X.h4 X.r2 X.h2 X.r1 X.h1 X.br X.hb X.m8 X.m4 X.m2 X.m1) >>= kk) Q) :=
  wp_sums d L X 2 k0_off61 k0_off61_inb (fun t => (k0_off61_eq t).trans rfl) fq fo

/-- Loop 8 of the body. -/
theorem wp_sums8 (d : Dev nD) (L : grid0.Coords) (X : Pro F) (fq : Buf (Elt F) (sQ.view.loc (at_ d L))) (fo : Buf (Elt F) (sOut.view.loc (at_ d L)))
    {α : Type} {kk : Unit → Prog (TpuEff nD τ sig (Elt F) Λ₀ (at_ d L).2) α} {Q : α → sProp (MM F)} :
    sumsInv d L X 3 fq fo 0 ⟨⟩
    ⊢ iprop((sumsInv d L X 3 fq fo 8 ⟨⟩ -∗ wp frame (wpE (defs₀ (F := F)) 𝒱₀ (at_ d L) none) Set.univ (kk ⟨⟩) Q)
      -∗ wp frame (wpE (defs₀ (F := F)) 𝒱₀ (at_ d L) none) Set.univ (Scf.Loop.for k0_t8_loop k0_t8_ok ⟨⟩ (k0_t8_body (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0
    X.r1 X.h1 X.br X.hb X.m2 X.m1) >>= kk) Q) :=
  wp_sums d L X 3 k0_off81 k0_off81_inb (fun t => (k0_off81_eq t).trans rfl) fq fo

end Cert.Gmf
-- ==== Proof.Prologue.lean ====
module
public import proofs.«01_k».proof.Proof.Loops

/-! The body's first part: the lists, the weights and the bias fetched into the tile's memory, the lane permutations and masks. -/

@[expose] public section
noncomputable section

namespace Cert.Gmf

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The only word of one. -/
def only1 : S1.Idx := fun a => match a with | 0 => ⟨0, by decide⟩

/-- The first vector of a row's sum: the bias in lane 0, zero in the others. -/
def biasLane (b : F .f32) : Lane F := fun x => if (x 0).val = 0 then b else Scalar.ofBits .f32 0x00000000#32

/-- The weights' sixteen from `16 * j` on. -/
def weights (w : S128.Idx → F .f32) (j : Fin 8) : Lane F := fun x => w (fun a => match a with | 0 => col j (x 0))

theorem chk1 : k0_chk1 k0_pay137 := by decide +kernel
theorem chk2 : k0_chk2 k0_pay138 := by decide +kernel
theorem chk3 : k0_chk3 k0_pay139 := by decide +kernel
theorem chk4 : k0_chk4 k0_pay140 := by decide +kernel
/-- The lanes' own numbers. -/
def lanes : IVec S16 32 := iota .scVector S16 32 [0] iota_S16_d0_w32_scVector
theorem chk5 : k0_chk5 (k0_pay142 lanes k0_pay141 4#32) := by decide +kernel

/-- What the body's loops read, from the bias `b` and the weights `w`. -/
def pro (b : F .f32) (w : S128.Idx → F .f32) : Pro F where
  b := biasLane b
  w := weights w
  r8 := k0_pay137
  r4 := k0_pay138
  r2 := k0_pay139
  r1 := k0_pay140
  br := k0_pay142 lanes k0_pay141 4#32
  h8 := chk1
  h4 := chk2
  h2 := chk3
  h1 := chk4
  hb := chk5
  m8 := k0_pay143 lanes
  m4 := k0_pay144 lanes
  m2 := k0_pay145 lanes
  m1 := k0_pay146 lanes

/-- What a thread owes, having waited only at the level of transfers since `W`. -/
def owesN (c : Thread nD τ) (O : CellTallies nD τ sig (HIx 1)) (W : Waits sig (HIx 1)) : sProp (MM F) :=
  iprop(∃ W', ⌜∀ p ∈ W', p ∈ W ∨ p.2 = none⌝ ∗ owes c O W')

/-- The words of a list that a tile works on. -/
abbrev listOf (mem : Memref sig .scVector .hbm S16384 .i32) (L : grid0.Coords) : Memref sig .scVector .hbm S512 .i32 :=
  mem.slice (Rect.unit (s := S16384) (k0_off1 L) S512.size (k0_off1_inb L)) (fun _ => rfl)

/-- The weights' buffer read sixteen at a time. -/
theorem weights_read {d : Dev nD} {L : grid0.Coords} {w : S128.Idx → F .f32} (g : Buf (Elt F) (sW.view.loc (at_ d L))) (hg : ∀ y, sW.view.read (Elt F) g y = w y) (j : Fin 8)
    {off : Fin 1 → Nat} {hi} (v : Lane F) (hv : v = sW.view.readAt (Elt F) (Rect.unit (s := S128) off S16.size hi).toLoadRect g) (e : off = ![16 * j.val] := by rfl) :
    v = weights w j := by
  subst e hv
  funext x
  refine (hg _).trans (congrArg w (funext fun a => Fin.ext ?_))
  match a with
  | 0 => simp [Rect.emb, Rect.unit, col, Rect.toLoadRect]

/-- The bias's buffer: the bias written over the first word, sixteen zeros from the second on. -/
theorem bias_read [∀ e, Nonempty (Elt F e)] (b : S1.Idx → F .f32) (z : Lane F) (hz : ∀ x, z x = Scalar.ofBits .f32 0x00000000#32) :
    sB.view.readCov (Val := Elt F) [⟨Rect.unit (s := S17) ![0] S1.size inb_S17_S1_0, b⟩, ⟨Rect.unit (s := S17) ![1] S16.size inb_S17_S16_1, z⟩]
      (Rect.unit (s := S17) ![0] S16.size inb_S17_S16_0).toLoadRect = biasLane (b only1) := by
  funext x
  change sB.view.read (Elt F) (sB.view.writes (Elt F) sB.view.junk _) ((Rect.unit (s := S17) ![0] S16.size inb_S17_S16_0).emb x) = _
  have hx : ((Rect.unit (s := S17) ![0] S16.size inb_S17_S16_0).emb x 0).val = (x 0).val := by simp [Rect.emb, Rect.unit]
  rw [View.read_writes_cons_unit sB.view _ inb_S17_S1_0 _ _ _ rfl]
  unfold biasLane
  split
  · next h =>
    have h0 : ((Rect.unit (s := S17) ![0] S16.size inb_S17_S16_0).emb x 0).val < 0 + 1 := (h 0).2
    rw [if_pos (by omega)]
    refine congrArg b (funext fun a => Fin.ext ?_)
    match a with
    | 0 => exact Nat.lt_one_iff.mp (Fin.isLt _)
  · next h =>
    have hne : (x 0).val ≠ 0 := fun e0 => h fun a => match a with
      | 0 => ⟨Nat.zero_le _, by show _ < 0 + 1; omega⟩
    rw [if_neg hne, View.read_writes_cons_unit sB.view _ inb_S17_S16_1 _ _ _ rfl, dif_pos]
    · exact hz _
    · intro a
      match a with
      | 0 =>
        have h16 : (x 0).val < 16 := (x 0).isLt
        exact ⟨by show 1 ≤ _; omega, by show _ < 1 + 16; omega⟩

set_option maxHeartbeats 1000000 in
/-- The lists, the weights and the bias are fetched, and all but the last two vectors of weights read. -/
theorem wp_part33 (d : Dev nD) (L : grid0.Coords) (q : PosShare TreeShare)
    (f0 : Buf (Elt F) (mUsers.view.loc (at_ d L))) (f1 : Buf (Elt F) (mItems.view.loc (at_ d L)))
    (fw : Buf (Elt F) (mW.view.loc (at_ d L))) (fb : Buf (Elt F) (mB.view.loc (at_ d L)))
    (g0 : Buf (Elt F) (sUI.view.loc (at_ d L))) (g1 : Buf (Elt F) (sII.view.loc (at_ d L)))
    (gw : Buf (Elt F) (sW.view.loc (at_ d L))) (gb : Buf (Elt F) (sB.view.loc (at_ d L)))
    (O : CellTallies nD τ sig (HIx 1)) (W : Waits sig (HIx 1)) (hO : ∀ g, O g none = 0)
    {α : Type} {kk : _ → Prog (TpuEff nD τ sig (Elt F) Λ₀ (at_ d L).2) α} {Q : α → sProp (MM F)} :
    (iprop(levAts (K (F := F)).L (K (F := F)).lev
      ∗ (mUsers.view.loc (at_ d L) ↦{q} f0) ∗ (mItems.view.loc (at_ d L) ↦{q} f1) ∗ (mW.view.loc (at_ d L) ↦{q} fw) ∗ (mB.view.loc (at_ d L) ↦{q} fb)
      ∗ (sUI.view.loc (at_ d L) ↦{fullShare} g0) ∗ (sII.view.loc (at_ d L) ↦{fullShare} g1) ∗ (sW.view.loc (at_ d L) ↦{fullShare} gw) ∗ (sB.view.loc (at_ d L) ↦{fullShare} gb)
      ∗ semVal (at_ d L, SemLoc.dma cc0_scratch13.sem) 0 ∗ semVal (at_ d L, SemLoc.dma cc0_scratch14.sem) 0 ∗ semVal (at_ d L, SemLoc.dma cc0_scratch15.sem) 0
      ∗ owes (at_ d L) O W) : sProp (MM F))
    ⊢ iprop((((mUsers.view.loc (at_ d L) ↦{q} f0) ∗ (mItems.view.loc (at_ d L) ↦{q} f1) ∗ (mW.view.loc (at_ d L) ↦{q} fw) ∗ (mB.view.loc (at_ d L) ↦{q} fb)
      ∗ (∃ g, (sUI.view.loc (at_ d L) ↦{fullShare} g) ∗ ⌜∀ y, sUI.view.read (Elt F) g y = (listOf mUsers L).view.read (Elt F) f0 y⌝)
      ∗ (∃ g, (sII.view.loc (at_ d L) ↦{fullShare} g) ∗ ⌜∀ y, sII.view.read (Elt F) g y = (listOf mItems L).view.read (Elt F) f1 y⌝)
      ∗ (∃ g, (sW.view.loc (at_ d L) ↦{fullShare} g) ∗ ⌜∀ y, sW.view.read (Elt F) g y = mW.view.read (Elt F) fw y⌝)
      ∗ (∃ g, sB.view.loc (at_ d L) ↦{fullShare} g)
      ∗ semVal (at_ d L, SemLoc.dma cc0_scratch13.sem) 0 ∗ semVal (at_ d L, SemLoc.dma cc0_scratch14.sem) 0 ∗ semVal (at_ d L, SemLoc.dma cc0_scratch15.sem) 0
      ∗ owesN (at_ d L) O W) -∗
        wp frame (wpE (defs₀ (F := F)) 𝒱₀ (at_ d L) none) Set.univ (kk ⟨biasLane (mB.view.read (Elt F) fb only1), weights (mW.view.read (Elt F) fw) 0,
          weights (mW.view.read (Elt F) fw) 1, weights (mW.view.read (Elt F) fw) 2, weights (mW.view.read (Elt F) fw) 3,
          weights (mW.view.read (Elt F) fw) 4, weights (mW.view.read (Elt F) fw) 5⟩) Q)
      -∗ wp frame (wpE (defs₀ (F := F)) 𝒱₀ (at_ d L) none) Set.univ (k0_part33_skel (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0 >>= kk) Q) := by
  iintro ⟨#Hlev, Hus, Hit, Hw, Hb, Hui, Hii, Hsw, Hsb, S13, S14, S15, HO⟩ Hk
  ihave Hmw := (show levAts (K (F := F)).L (K (F := F)).lev ⊢ Transfers.MayWaits (at_ d L) (default : HIx 1) O from
    (K (F := F)).mayWaits_none (thr := at_ d L) hO) $$ Hlev
  have plan : Transfers.BatchOf (at_ d L) (SemLoc.dma cc0_scratch13.sem) 2 := trivial
  sl_unfold [k0_part33_skel]
  sl_exec
  have hw : ∀ y, sW.view.read (Elt F) (sW.view.write (Elt F) gw (wp_part33.sl.dma2 d L fw) Finset.univ) y = mW.view.read (Elt F) fw y := by
    intro y
    rw [View.read_write_univ]
    delta wp_part33.sl.dma2
    rfl
  have hu : ∀ y, sUI.view.read (Elt F) (sUI.view.write (Elt F) g0 (wp_part33.sl.dma4 d L f0) Finset.univ) y = (listOf mUsers L).view.read (Elt F) f0 y := by
    intro y
    rw [View.read_write_univ]
    delta wp_part33.sl.dma4
    rfl
  have hi : ∀ y, sII.view.read (Elt F) (sII.view.write (Elt F) g1 (wp_part33.sl.dma5 d L f1) Finset.univ) y = (listOf mItems L).view.read (Elt F) f1 y := by
    intro y
    rw [View.read_write_univ]
    delta wp_part33.sl.dma5
    rfl
  have hb : wp_part33.sl.v19 d L fb = biasLane (mB.view.read (Elt F) fb only1) := by
    delta wp_part33.sl.v19 wp_part33.sl.dma2_1 wp_part33.sl.Hsb_1
    exact bias_read _ _ (fun x => rfl)
  have hb' : k0_pay128 (wp_part33.sl.v19 d L fb) = biasLane (mB.view.read (Elt F) fb only1) := by rw [← hb]; exact shapeCast_self _ _
  rw [hb', weights_read (d := d) (L := L) _ hw 0 (k0_pay129 _) (shapeCast_self _ _), weights_read (d := d) (L := L) _ hw 1 (k0_pay130 _) (shapeCast_self _ _),
    weights_read (d := d) (L := L) _ hw 2 (k0_pay131 _) (shapeCast_self _ _), weights_read (d := d) (L := L) _ hw 3 (k0_pay132 _) (shapeCast_self _ _),
    weights_read (d := d) (L := L) _ hw 4 (k0_pay133 _) (shapeCast_self _ _), weights_read (d := d) (L := L) _ hw 5 (k0_pay134 _) (shapeCast_self _ _)]
  iapply Hk
  iframe
  isplitl [Hui]
  · iexists _
    isplitl
    · iexact Hui
    · ipureintro; exact hu
  isplitl [Hii]
  · iexists _
    isplitl
    · iexact Hii
    · ipureintro; exact hi
  isplitl [Hsw]
  · iexists _
    isplitl
    · iexact Hsw
    · ipureintro; exact hw
  isplitl [Hsb]
  · iexists _
    iexact Hsb
  isplitl [S13]; · iexact S13
  isplitl [S14]; · iexact S14
  isplitl [S15]; · iexact S15
  unfold owesN
  iexists _
  isplitr
  rotate_left
  · iexact HO
  · ipureintro
    intro p hp
    simp only [Finset.mem_insert] at hp
    rcases hp with rfl | rfl | rfl | rfl | hp
    · exact Or.inr rfl
    · exact Or.inr rfl
    · exact Or.inr rfl
    · exact Or.inr rfl
    · exact Or.inl hp

/-- The last two vectors of weights are read, and the four permutations found in range. -/
theorem wp_part34 (d : Dev nD) (L : grid0.Coords) {w : S128.Idx → F .f32} (g : Buf (Elt F) (sW.view.loc (at_ d L))) (hg : ∀ y, sW.view.read (Elt F) g y = w y)
    {α : Type} {kk : _ → Prog (TpuEff nD τ sig (Elt F) Λ₀ (at_ d L).2) α} {Q : α → sProp (MM F)} :
    ((sW.view.loc (at_ d L) ↦{fullShare} g) : sProp (MM F))
    ⊢ iprop(((sW.view.loc (at_ d L) ↦{fullShare} g) -∗
        wp frame (wpE (defs₀ (F := F)) 𝒱₀ (at_ d L) none) Set.univ (kk ⟨weights w 6, weights w 7, lanes, k0_pay137, chk1, k0_pay138, chk2, k0_pay139, chk3, k0_pay140, chk4, k0_pay141, 4#32⟩) Q)
      -∗ wp frame (wpE (defs₀ (F := F)) 𝒱₀ (at_ d L) none) Set.univ (k0_part34_skel (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0 >>= kk) Q) := by
  iintro Hsw Hk
  have c1 := chk1
  have c2 := chk2
  have c3 := chk3
  have c4 := chk4
  sl_unfold [k0_part34_skel]
  sl_exec
  rw [weights_read (d := d) (L := L) _ hg 6 (k0_pay135 _) (shapeCast_self _ _), weights_read (d := d) (L := L) _ hg 7 (k0_pay136 _) (shapeCast_self _ _)]
  iapply Hk
  iexact Hsw

end Cert.Gmf
-- ==== Proof.Chunks.lean ====
module
public import Idealize.ShloMosaic.Lib.Ring
public import proofs.«01_k».proof.Proof.Prologue

/-! A chunk of 128 rows of both tables, fetched by four gathers of 64 rows: what each of them takes, and what the four hand
back when all their rows have landed. -/

@[expose] public section
noncomputable section

namespace Cert.Gmf

open Cert.KernelIdeal Cert.KernelIdeal.Gen Cert.KernelIdeal.GatherBatch
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## A buffer cut into blocks -/

section Blocks
variable {sp : Space} {s : Shape} {e : EltTy} {n : ℕ} (d : Dev nD) (L : grid0.Coords) (m : Memref sig .scVector sp s e)
variable (R : Fin n → Rect s) (hd : ∀ b b', b ≠ b' → Disjoint (R b).set (R b').set) (hc : ∀ y, ∃ b, y ∈ (R b).set)

include hd in
theorem blocks_disjoint (b b' : Fin n) (h : b ≠ b') : Disjoint (m.view.slice (R b)).set (m.view.slice (R b')).set := by
  rw [View.set_slice, View.set_slice, Finset.disjoint_map]; exact hd b b' h

include hc in
theorem blocks_cover : Finset.univ.biUnion (fun b => (m.view.slice (R b)).set) = m.view.set := by
  ext i
  simp only [Finset.mem_biUnion, Finset.mem_univ, true_and]
  constructor
  · rintro ⟨b, h⟩; exact View.set_slice_subset _ _ h
  · intro h
    obtain ⟨y, -, rfl⟩ := Finset.mem_map.mp h
    obtain ⟨b, hb⟩ := hc y
    exact ⟨b, by rw [View.set_slice]; exact Finset.mem_map_of_mem _ hb⟩

include hd hc in
/-- A buffer is its blocks. -/
theorem blocks_split (q : PosShare TreeShare) (f : Buf (Elt F) (m.view.loc (at_ d L))) :
    ((m.view.loc (at_ d L) ↦[m.view.set]{q} f) : sProp (MM F))
      = bigSep Finset.univ fun b => (m.view.loc (at_ d L) ↦[(m.view.slice (R b)).set]{q} f) := by
  have h := pointsTo_biUnion (ℓ := m.view.loc (at_ d L)) (q := q) (f := f) (Ix := HIx 1) (Name := ℕ) (U := UU) (Lvl := ℕ) Finset.univ (fun b => (m.view.slice (R b)).set)
    (fun b _ b' _ h => blocks_disjoint m R hd b b' h)
  rw [blocks_cover m R hc] at h
  exact h

include hd hc in
/-- Blocks that hold contents of their own are the buffer at contents that agree with each. -/
theorem blocks_join (q : PosShare TreeShare) (fs : Fin n → Buf (Elt F) (m.view.loc (at_ d L))) (f₀ : Buf (Elt F) (m.view.loc (at_ d L))) :
    (bigSep Finset.univ fun b => (m.view.loc (at_ d L) ↦[(m.view.slice (R b)).set]{q} (fs b)))
      ⊢ (iprop(∃ g, ⌜∀ b x, m.view.read (Elt F) g ((R b).emb x) = (m.view.slice (R b)).read (Elt F) (fs b) x⌝
          ∗ (m.view.loc (at_ d L) ↦[m.view.set]{q} g)) : sProp (MM F)) := by
  iintro H
  ihave H := pointsTo_biUnion_join Finset.univ (fun b => (m.view.slice (R b)).set) fs f₀ (fun b _ b' _ h => blocks_disjoint m R hd b b' h) $$ H
  icases H with ⟨%g, %hg, H⟩
  iexists g
  isplitr
  · ipureintro
    intro b x
    have h := hg b (Finset.mem_univ _) ((m.view.slice (R b)).emb x) (View.emb_mem_set _ _)
    change _root_.cast _ (g ((m.view.slice (R b)).emb x)) = _root_.cast _ (fs b ((m.view.slice (R b)).emb x))
    rw [h]
  · rw [blocks_cover m R hc]; iexact H

end Blocks

/-! ## The pieces a gather works on -/

/-- The whole of a table, as the gathers name it. -/
abbrev tabAll (tab : Memref sig .scVector .hbm S100000x128 .f32) : Memref sig .scVector .hbm S100000x128 .f32 :=
  tab.slice (Rect.unit (s := S100000x128) ![0, 0] S100000x128.size inb_S100000x128_S100000x128_0_0) (fun _ => rfl)

/-- Sixty-four rows of a row buffer, from row `o` on. -/
abbrev half (a : Memref sig .scVector .vmem S128x128 .f32) (o : ℕ) (h : ∀ x, (![o, 0] : Fin 2 → ℕ) x + S64x128.size x ≤ S128x128.size x) :
    Memref sig .scVector .vmem S64x128 .f32 :=
  a.slice (Rect.unit (s := S128x128) ![o, 0] S64x128.size h) (fun _ => rfl)

/-- Sixty-four words of a list, from word `n` on. -/
abbrev part (l : Memref sig .scVector .vmem S512 .i32) (n : ℕ) (h : ∀ x, (![n] : Fin 1 → ℕ) x + S64.size x ≤ S512.size x) :
    Memref sig .scVector .vmem S64 .i32 :=
  l.slice (Rect.unit (s := S512) ![n] S64.size h) (fun _ => rfl)

/-- The two halves of a row buffer. -/
def halfRect (b : Fin 2) : Rect S128x128 :=
  Rect.unit (s := S128x128) ![64 * b.val, 0] S64x128.size (fun x => match x with
    | 0 => by show 64 * b.val + 64 ≤ 128; have := b.isLt; omega
    | 1 => by show 0 + 128 ≤ 128; omega)

/-- The eight parts of a list. -/
def partRect (b : Fin 8) : Rect S512 :=
  Rect.unit (s := S512) ![64 * b.val] S64.size (fun x => match x with
    | 0 => by show 64 * b.val + 64 ≤ 512; have := b.isLt; omega)

theorem halfRect_disjoint (b b' : Fin 2) (h : b ≠ b') : Disjoint (halfRect b).set (halfRect b').set := by
  refine Finset.disjoint_left.mpr fun y h1 h2 => h (Fin.ext ?_)
  have e1 := Rect.mem_set_unit.mp h1 0
  have e2 := Rect.mem_set_unit.mp h2 0
  simp at e1 e2
  omega

theorem halfRect_cover (y : S128x128.Idx) : ∃ b, y ∈ (halfRect b).set := by
  have h0 : (y 0).val < 128 := (y 0).isLt
  have h1 : (y 1).val < 128 := (y 1).isLt
  refine ⟨⟨(y 0).val / 64, by omega⟩, Rect.mem_set_unit.mpr fun x => ?_⟩
  match x with
  | 0 => exact ⟨by show 64 * ((y 0).val / 64) ≤ _; omega, by show _ < 64 * ((y 0).val / 64) + 64; omega⟩
  | 1 => exact ⟨Nat.zero_le _, by show _ < 0 + 128; omega⟩

theorem partRect_disjoint (b b' : Fin 8) (h : b ≠ b') : Disjoint (partRect b).set (partRect b').set := by
  refine Finset.disjoint_left.mpr fun y h1 h2 => h (Fin.ext ?_)
  have e1 := Rect.mem_set_unit.mp h1 0
  have e2 := Rect.mem_set_unit.mp h2 0
  simp at e1 e2
  omega

theorem partRect_cover (y : S512.Idx) : ∃ b, y ∈ (partRect b).set := by
  have h0 : (y 0).val < 512 := (y 0).isLt
  refine ⟨⟨(y 0).val / 64, by omega⟩, Rect.mem_set_unit.mpr fun x => ?_⟩
  match x with
  | 0 => exact ⟨by show 64 * ((y 0).val / 64) ≤ _; omega, by show _ < 64 * ((y 0).val / 64) + 64; omega⟩

section Pieces
variable (d : Dev nD) (L : grid0.Coords)

/-- Ownership of what a memref names. -/
abbrev own {sp : Space} {s : Shape} {e : EltTy} (m : Memref sig .scVector sp s e) (q : PosShare TreeShare) (f : Buf (Elt F) (m.view.loc (at_ d L))) :
    sProp (MM F) := (m.view.loc (at_ d L) ↦[m.view.set]{q} f)

theorem own_half (a : Memref sig .scVector .vmem S128x128 .f32) (f : Buf (Elt F) (a.view.loc (at_ d L))) :
    own d L a fullShare f = (iprop(own d L (half a 0 inb_S128x128_S64x128_0_0) fullShare f ∗ own d L (half a 64 inb_S128x128_S64x128_64_0) fullShare f) : sProp (MM F)) := by
  unfold own
  rw [blocks_split d L a halfRect halfRect_disjoint halfRect_cover, Ring.bigSep_fin2]
  rfl

theorem own_part (l : Memref sig .scVector .vmem S512 .i32) (f : Buf (Elt F) (l.view.loc (at_ d L))) :
    own d L l fullShare f
      = (iprop(own d L (part l 0 inb_S512_S64_0) fullShare f ∗ own d L (part l 64 inb_S512_S64_64) fullShare f
        ∗ own d L (part l 128 inb_S512_S64_128) fullShare f ∗ own d L (part l 192 inb_S512_S64_192) fullShare f
        ∗ own d L (part l 256 inb_S512_S64_256) fullShare f ∗ own d L (part l 320 inb_S512_S64_320) fullShare f
        ∗ own d L (part l 384 inb_S512_S64_384) fullShare f ∗ own d L (part l 448 inb_S512_S64_448) fullShare f) : sProp (MM F)) := by
  unfold own
  rw [blocks_split d L l partRect partRect_disjoint partRect_cover]
  simp only [bigSep_univ_succ]
  rw [show (Finset.univ : Finset (Fin 0)) = ∅ from rfl, BI.bigSep_empty]
  refine both ?_ ?_
  · iintro ⟨H0, H1, H2, H3, H4, H5, H6, H7, -⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro

/-- A share of a table in four. -/
abbrev quarter (q : PosShare TreeShare) (j : Fin 4) : PosShare TreeShare := pieceOf q 4 (by decide) j

theorem own_tab (tab : Memref sig .scVector .hbm S100000x128 .f32) (q : PosShare TreeShare) (f : Buf (Elt F) (tab.view.loc (at_ d L))) :
    own d L tab q f = (iprop(own d L (tabAll tab) (quarter q 0) f ∗ own d L (tabAll tab) (quarter q 1) f
      ∗ own d L (tabAll tab) (quarter q 2) f ∗ own d L (tabAll tab) (quarter q 3) f) : sProp (MM F)) := by
  have hs : (tabAll tab).view.set = tab.view.set := by
    rw [show (tabAll tab).view.set = (tab.view.slice (Rect.unit (s := S100000x128) ![0, 0] S100000x128.size inb_S100000x128_S100000x128_0_0)).set from rfl, View.set_slice]
    have : (Rect.unit (s := S100000x128) ![0, 0] S100000x128.size inb_S100000x128_S100000x128_0_0).set = Finset.univ := by
      ext y
      simp only [Finset.mem_univ, iff_true]
      refine Rect.mem_set_unit.mpr fun x => ?_
      match x with
      | 0 => exact ⟨Nat.zero_le _, by show _ < 0 + 100000; have : (y 0).val < 100000 := (y 0).isLt; omega⟩
      | 1 => exact ⟨Nat.zero_le _, by show _ < 0 + 128; have : (y 1).val < 128 := (y 1).isLt; omega⟩
    rw [this]; rfl
  unfold own
  rw [hs, pointsTo_piecesOf tab.view.set f (o := 4) (by decide) q]
  simp only [bigSep_univ_succ]
  rw [show (Finset.univ : Finset (Fin 0)) = ∅ from rfl, BI.bigSep_empty]
  refine both ?_ ?_
  · iintro ⟨H0, H1, H2, H3, -⟩
    isplitl [H0]; · iexact H0
    isplitl [H1]; · iexact H1
    isplitl [H2]; · iexact H2
    iexact H3
  · iintro ⟨H0, H1, H2, H3⟩
    isplitl [H0]; · iexact H0
    isplitl [H1]; · iexact H1
    isplitl [H2]; · iexact H2
    isplitl [H3]; · iexact H3
    iempintro

end Pieces

/-! ## One gather of 64 rows -/

/-- The word of a list at `n` (the lists are 512 long). -/
def wordAt (n : ℕ) : S512.Idx := spot (n % 512) (Nat.mod_lt _ (by decide))

/-- Entry `k` of the row a word names. -/
def rowOfWord (w : BitVec 32) (k : Fin 128) : S100000x128.Idx := fun a => match a with
  | 0 => ⟨w.toNat % 100000, Nat.mod_lt _ (by decide)⟩
  | 1 => k

/-- The 128 rows of the table `T` that the words of `l` from `n` on name. -/
def fetched {A : Type} (T : S100000x128.Idx → A) (l : S512.Idx → BitVec 32) (n : ℕ) : S128x128.Idx → A :=
  fun y => T (rowOfWord (l (wordAt (n + (y 0).val))) (y 1))

/-- The rows of one gather. -/
abbrev Rows : Type := Fin (S64x128.size gathers_S100000x128_S64x128.axis')

section Stream
variable (d : Dev nD) (L : grid0.Coords)
variable (tab : Memref sig .scVector .hbm S100000x128 .f32) (qt : PosShare TreeShare) (T : Buf (Elt F) (tab.view.loc (at_ d L)))
variable (a : Memref sig .scVector .vmem S128x128 .f32) (o : ℕ) (ho : ∀ x, (![o, 0] : Fin 2 → ℕ) x + S64x128.size x ≤ S128x128.size x)
variable (fa : Buf (Elt F) (a.view.loc (at_ d L)))
variable (l : Memref sig .scVector .vmem S512 .i32) (n : ℕ) (hn : ∀ x, (![n] : Fin 1 → ℕ) x + S64.size x ≤ S512.size x)
variable (g : Buf (Elt F) (l.view.loc (at_ d L))) (hg : ∀ y, (l.view.read (Elt F) g y).toNat < 100000)

/-- What each row of the gather hands back. -/
def stream : Rows → sProp (MM F) :=
  landed (at_ d L) (tabAll tab) (half a o ho) gathers_S100000x128_S64x128 (part l n hn) rfl qt fullShare T fa g (by decide) (fun _ => hg _)

instance stream_storable (j : Rows) : Storable (upEmb : UEmb _ (MM F)) (stream d L tab qt T a o ho fa l n hn g hg j) := by
  unfold stream; exact landed_storable _ _ _ _ _ _ _ _ _ _ _ _ _ _

/-- What the half of the row buffer holds after the gather. -/
def gathered : Buf (Elt F) (a.view.loc (at_ d L)) :=
  (half a o ho).view.write (Elt F) fa (gatherPayload gathers_S100000x128_S64x128 ((tabAll tab).view.read (Elt F) T)
    (rows ((part l n hn).view.read (Elt F) g) rfl (fun _ => hg _))) Finset.univ

theorem stream_all :
    bigSep Finset.univ (stream d L tab qt T a o ho fa l n hn g hg)
      ⊢ (iprop(own d L (half a o ho) fullShare (gathered d L tab T a o ho fa l n hn g hg)
          ∗ own d L (tabAll tab) qt T ∗ own d L (part l n hn) fullShare g) : sProp (MM F)) :=
  landed_all (at_ d L) (tabAll tab) (half a o ho) gathers_S100000x128_S64x128 (part l n hn) rfl qt fullShare T fa g (by decide) (fun _ => hg _)

/-- The half's rows are the table's rows that the list's words name. -/
theorem gathered_read (c : ℕ) (hc : n = c + o) (x : S64x128.Idx) :
    (half a o ho).view.read (Elt F) (gathered d L tab T a o ho fa l n hn g hg) x
      = fetched (tab.view.read (Elt F) T) (l.view.read (Elt F) g) c ((Rect.unit (s := S128x128) ![o, 0] S64x128.size ho).emb x) := by
  unfold gathered
  rw [View.read_write_univ]
  unfold gatherPayload
  change tab.view.read (Elt F) T ((Rect.unit (s := S100000x128) ![0, 0] S100000x128.size inb_S100000x128_S100000x128_0_0).emb _) = tab.view.read (Elt F) T _
  refine congrArg _ (funext fun b => Fin.ext ?_)
  have hn' : n + 64 ≤ 512 := hn 0
  have hx : (x 0).val < 64 := (x 0).isLt
  match b with
  | 0 =>
    have hk : ∀ k : Fin 64, ((S64.rowMajor.symm k) 0).val = k.val := fun k => by
      have := Shape.rowMajor_val_one (d := S64.size) (S64.rowMajor.symm k)
      rw [← this]; exact congrArg Fin.val (S64.rowMajor.apply_symm_apply k)
    have hw : (Rect.unit (s := S512) ![n] S64.size hn).emb (S64.rowMajor.symm (x 0)) = wordAt (c + (o + (x 0).val)) := by
      funext b
      match b with
      | 0 =>
        refine Fin.ext ?_
        show n + 1 * ((S64.rowMajor.symm (x 0)) 0).val = (c + (o + (x 0).val)) % 512
        rw [hk (x 0), Nat.mod_eq_of_lt (by omega)]
        omega
    show 0 + 1 * (l.view.read (Elt F) g ((Rect.unit (s := S512) ![n] S64.size hn).emb (S64.rowMajor.symm (x 0)))).toNat
      = (l.view.read (Elt F) g (wordAt (c + (o + 1 * (x 0).val)))).toNat % 100000
    rw [hw, Nat.mod_eq_of_lt (hg _)]
    simp
  | 1 =>
    show 0 + 1 * (x 1).val = 0 + 1 * (x 1).val
    rfl

end Stream

/-- Both halves gathered, a row buffer holds the 128 rows that the words of the list from `c` on name. -/
theorem rows_join (d : Dev nD) (L : grid0.Coords) (a : Memref sig .scVector .vmem S128x128 .f32) (f0 f1 : Buf (Elt F) (a.view.loc (at_ d L)))
    (R : S128x128.Idx → F .f32)
    (h0 : ∀ x, (half a 0 inb_S128x128_S64x128_0_0).view.read (Elt F) f0 x = R ((Rect.unit (s := S128x128) ![0, 0] S64x128.size inb_S128x128_S64x128_0_0).emb x))
    (h1 : ∀ x, (half a 64 inb_S128x128_S64x128_64_0).view.read (Elt F) f1 x = R ((Rect.unit (s := S128x128) ![64, 0] S64x128.size inb_S128x128_S64x128_64_0).emb x)) :
    iprop(own d L (half a 0 inb_S128x128_S64x128_0_0) fullShare f0 ∗ own d L (half a 64 inb_S128x128_S64x128_64_0) fullShare f1)
      ⊢ (iprop(∃ g, ⌜a.view.read (Elt F) g = R⌝ ∗ own d L a fullShare g) : sProp (MM F)) := by
  have h := blocks_join (F := F) d L a halfRect halfRect_disjoint halfRect_cover fullShare (fun b => match b with | 0 => f0 | 1 => f1) f0
  rw [Ring.bigSep_fin2] at h
  refine h.trans ?_
  iintro ⟨%g, %hg, H⟩
  iexists g
  isplitr
  · ipureintro
    funext y
    obtain ⟨b, hb⟩ := halfRect_cover y
    rw [← Rect.map_emb_univ] at hb
    obtain ⟨x, -, rfl⟩ := Finset.mem_map.mp hb
    refine (hg b x).trans ?_
    match b with
    | 0 => exact h0 x
    | 1 => exact h1 x
  · iexact H

/-! ## The four gathers of a chunk -/

section Chunk
variable (d : Dev nD) (L : grid0.Coords) (q : PosShare TreeShare) (j j' : Fin 4)
variable (TU : Buf (Elt F) (mUTab.view.loc (at_ d L))) (TI : Buf (Elt F) (mITab.view.loc (at_ d L)))
variable (a b : Memref sig .scVector .vmem S128x128 .f32) (fa : Buf (Elt F) (a.view.loc (at_ d L))) (fb : Buf (Elt F) (b.view.loc (at_ d L)))
variable (gu : Buf (Elt F) (sUI.view.loc (at_ d L))) (hgu : ∀ y, (sUI.view.read (Elt F) gu y).toNat < 100000)
variable (gi : Buf (Elt F) (sII.view.loc (at_ d L))) (hgi : ∀ y, (sII.view.read (Elt F) gi y).toNat < 100000)
variable (n n' : ℕ) (hn : ∀ x, (![n] : Fin 1 → ℕ) x + S64.size x ≤ S512.size x) (hn' : ∀ x, (![n'] : Fin 1 → ℕ) x + S64.size x ≤ S512.size x)

/-- The users' and the items' rows of the first half, then those of the second. -/
def fam (i : Fin 4) : Rows → sProp (MM F) := match i with
  | 0 => stream d L mUTab (quarter q j) TU a 0 inb_S128x128_S64x128_0_0 fa sUI n hn gu hgu
  | 1 => stream d L mITab (quarter q j) TI b 0 inb_S128x128_S64x128_0_0 fb sII n hn gi hgi
  | 2 => stream d L mUTab (quarter q j') TU a 64 inb_S128x128_S64x128_64_0 fa sUI n' hn' gu hgu
  | 3 => stream d L mITab (quarter q j') TI b 64 inb_S128x128_S64x128_64_0 fb sII n' hn' gi hgi

instance fam_storable (i : Fin 4) (r : Rows) : Storable (upEmb : UEmb _ (MM F)) (fam d L q j j' TU TI a b fa fb gu hgu gi hgi n n' hn hn' i r) := by
  match i with
  | 0 => exact stream_storable (hg := hgu) ..
  | 1 => exact stream_storable (hg := hgi) ..
  | 2 => exact stream_storable (hg := hgu) ..
  | 3 => exact stream_storable (hg := hgi) ..

/-- The four gathers landed: both row buffers hold the chunk's rows, and the shares of the tables and of the lists are back. -/
theorem chunk_landed (h : n' = n + 64) :
    bigSep Finset.univ (grouped (fam d L q j j' TU TI a b fa fb gu hgu gi hgi n n' hn hn'))
      ⊢ (iprop((∃ g, ⌜a.view.read (Elt F) g = fetched (mUTab.view.read (Elt F) TU) (sUI.view.read (Elt F) gu) n⌝ ∗ own d L a fullShare g)
          ∗ (∃ g, ⌜b.view.read (Elt F) g = fetched (mITab.view.read (Elt F) TI) (sII.view.read (Elt F) gi) n⌝ ∗ own d L b fullShare g)
          ∗ own d L (tabAll mUTab) (quarter q j) TU ∗ own d L (tabAll mITab) (quarter q j) TI
          ∗ own d L (tabAll mUTab) (quarter q j') TU ∗ own d L (tabAll mITab) (quarter q j') TI
          ∗ own d L (part sUI n hn) fullShare gu ∗ own d L (part sII n hn) fullShare gi
          ∗ own d L (part sUI n' hn') fullShare gu ∗ own d L (part sII n' hn') fullShare gi) : sProp (MM F)) := by
  refine (grouped_four _).trans ?_
  iintro ⟨H0, H1, H2, H3⟩
  ihave H0 := (show bigSep Finset.univ (fam d L q j j' TU TI a b fa fb gu hgu gi hgi n n' hn hn' 0) ⊢ _ from stream_all d L mUTab (quarter q j) TU a 0 inb_S128x128_S64x128_0_0 fa sUI n hn gu hgu) $$ H0
  ihave H1 := (show bigSep Finset.univ (fam d L q j j' TU TI a b fa fb gu hgu gi hgi n n' hn hn' 1) ⊢ _ from stream_all d L mITab (quarter q j) TI b 0 inb_S128x128_S64x128_0_0 fb sII n hn gi hgi) $$ H1
  ihave H2 := (show bigSep Finset.univ (fam d L q j j' TU TI a b fa fb gu hgu gi hgi n n' hn hn' 2) ⊢ _ from stream_all d L mUTab (quarter q j') TU a 64 inb_S128x128_S64x128_64_0 fa sUI n' hn' gu hgu) $$ H2
  ihave H3 := (show bigSep Finset.univ (fam d L q j j' TU TI a b fa fb gu hgu gi hgi n n' hn hn' 3) ⊢ _ from stream_all d L mITab (quarter q j') TI b 64 inb_S128x128_S64x128_64_0 fb sII n' hn' gi hgi) $$ H3
  icases H0 with ⟨A0, T0, L0⟩
  icases H1 with ⟨A1, T1, L1⟩
  icases H2 with ⟨A2, T2, L2⟩
  icases H3 with ⟨A3, T3, L3⟩
  isplitl [A0 A2]
  · iapply (rows_join d L a _ _ _ (fun x => gathered_read d L mUTab TU a 0 _ fa sUI n hn gu hgu n rfl x)
      (fun x => gathered_read d L mUTab TU a 64 _ fa sUI n' hn' gu hgu n h x)) $$ [A0 A2]
    isplitl [A0]
    · iexact A0
    · iexact A2
  isplitl [A1 A3]
  · iapply (rows_join d L b _ _ _ (fun x => gathered_read d L mITab TI b 0 _ fb sII n hn gi hgi n rfl x)
      (fun x => gathered_read d L mITab TI b 64 _ fb sII n' hn' gi hgi n h x)) $$ [A1 A3]
    isplitl [A1]
    · iexact A1
    · iexact A3
  isplitl [T0]; · iexact T0
  isplitl [T1]; · iexact T1
  isplitl [T2]; · iexact T2
  isplitl [T3]; · iexact T3
  isplitl [L0]; · iexact L0
  isplitl [L1]; · iexact L1
  isplitl [L2]; · iexact L2
  iexact L3

end Chunk

/-! ## Starting a gather, waiting for one -/

section Steps
variable [FloatOps F] (d : Dev nD) (L : grid0.Coords)

/-- A semaphore's batch of four gathers with `k` rows started and `u` units waited for. -/
def flight (sem : DmaSem sig) (A : Fin 4 → Rows → sProp (MM F)) (k u : ℕ) : sProp (MM F) :=
  Transfers.Batch countersEmb (at_ d L) (SemLoc.dma sem) (default : HIx 1) 4096 (grouped A) k u

theorem flight_start (sem : DmaSem sig) (A : Fin 4 → Rows → sProp (MM F)) [∀ i r, Storable (upEmb : UEmb _ (MM F)) (A i r)] {E : Set ℕ} :
    (semVal (at_ d L, SemLoc.dma sem) 0 : sProp (MM F)) ⊢ |={E}=> flight d L sem A 0 0 :=
  Transfers.batch_alloc' (Lvl := ℕ) countersEmb (at_ d L) (default : HIx 1) 4096 (grouped A)

theorem wp_start {sem : DmaSem sig} {tab : Memref sig .scVector .hbm S100000x128 .f32} {qt : PosShare TreeShare} {T : Buf (Elt F) (tab.view.loc (at_ d L))}
    {a : Memref sig .scVector .vmem S128x128 .f32} {o : ℕ} {ho : ∀ x, (![o, 0] : Fin 2 → ℕ) x + S64x128.size x ≤ S128x128.size x}
    {fa : Buf (Elt F) (a.view.loc (at_ d L))}
    {l : Memref sig .scVector .vmem S512 .i32} {n : ℕ} {hn : ∀ x, (![n] : Fin 1 → ℕ) x + S64.size x ≤ S512.size x}
    {g : Buf (Elt F) (l.view.loc (at_ d L))} (hg : ∀ y, (l.view.read (Elt F) g y).toNat < 100000)
    (hN : ∀ r : Rows, ((half a o ho).slice (S64x128.rowRect gathers_S100000x128_S64x128.axis' r) (S64x128.stride_rowRect gathers_S100000x128_S64x128.axis' r)).view.dmaCredit = 4096)
    (A : Fin 4 → Rows → sProp (MM F)) (i : Fin 4) {k k' : ℕ} (hk : k = i.val * 64) (hk' : k' = k + 64)
    (hA : A i = stream d L tab qt T a o ho fa l n hn g hg)
    {hp hsrc he hsp hr} {α : Type} {kk : PUnit → Prog (TpuEff nD τ sig (Elt F) Λ₀ (at_ d L).2) α} {Q : α → sProp (MM F)} :
    (iprop(own d L (tabAll tab) qt T ∗ own d L (half a o ho) fullShare fa ∗ own d L (part l n hn) fullShare g ∗ flight d L sem A k 0) : sProp (MM F))
      ⊢ iprop((flight d L sem A k' 0 -∗ wp frame (wpE (defs₀ (F := F)) 𝒱₀ (at_ d L) none) Set.univ (kk ⟨⟩) Q)
        -∗ wp frame (wpE (defs₀ (F := F)) 𝒱₀ (at_ d L) none) Set.univ
            (SparseCore.enqueueIndirectGather hp (tabAll tab) (half a o ho) gathers_S100000x128_S64x128 (part l n hn) rfl sem hsrc he hsp hr >>= kk) Q) :=
  wp_gatherInBatch countersEmb 𝒱₀ (at_ d L) none (src := tabAll tab) (dst := half a o ho) (offs := part l n hn) (q := qt) (qo := fullShare) (fs := T) (fd := fa) (fo := g)
    (default : HIx 1) 4096 hN (by decide) (fun _ => hg _) A i hk hk' (Nat.zero_le _) hA

variable (O : CellTallies nD τ sig (HIx 1)) (W : Waits sig (HIx 1)) (hO : ∀ g, O g none = 0)

include hO in
/-- A wait that is not the last takes its units and hands nothing back. -/
theorem wp_waitSome {sem : DmaSem sig} {A : Fin 4 → Rows → sProp (MM F)} {sp' : Space} {s s' : Shape} {e e' : EltTy}
    {src : Memref sig .scVector sp' s' e'} {dst : Memref sig .scVector .vmem s e} {hsrc : src.view.WordExact} {hdst : dst.view.WordExact}
    (hJ : dst.view.dmaCredit = 64 * 4096) {u u' : ℕ} (hu : u' = u + 64 * 4096) (hle : u' ≤ 4096 * 256)
    {α : Type} {kk : PUnit → Prog (TpuEff nD τ sig (Elt F) Λ₀ (at_ d L).2) α} {Q : α → sProp (MM F)} :
    (iprop(levAts (K (F := F)).L (K (F := F)).lev ∗ flight d L sem A 256 u ∗ owesN (at_ d L) O W) : sProp (MM F))
      ⊢ iprop((iprop(flight d L sem A 256 u' ∗ owesN (at_ d L) O W) -∗ wp frame (wpE (defs₀ (F := F)) 𝒱₀ (at_ d L) none) Set.univ (kk ⟨⟩) Q)
        -∗ wp frame (wpE (defs₀ (F := F)) 𝒱₀ (at_ d L) none) Set.univ (SparseCore.waitIndirectGather sem src dst hsrc hdst >>= kk) Q) := by
  subst hu
  iintro ⟨#Hlev, HB, HO⟩ Hk
  ihave Hmw := (show levAts (K (F := F)).L (K (F := F)).lev ⊢ Transfers.MayWaits (at_ d L) (default : HIx 1) O from
    (K (F := F)).mayWaits_none (thr := at_ d L) hO) $$ Hlev
  unfold owesN flight
  icases HO with ⟨%W', %hW, HO⟩
  iapply (Transfers.wp_waitBatchMulO countersEmb 𝒱₀ (at_ d L) none (default : HIx 1) (N := 4096) 64 hJ hle) $$ [HB HO Hmw]
  · isplitl [HB]; · iexact HB
    isplitl [HO]; · iexact HO
    iapply (Transfers.MayWaits.elim (SemLoc.dma sem)) $$ Hmw
  iintro ⟨HB, HO⟩
  iapply Hk
  isplitl [HB]; · iexact HB
  iexists _
  isplitr
  rotate_left
  · iexact HO
  · ipureintro
    intro p hp
    rcases Finset.mem_insert.mp hp with rfl | hp
    · exact Or.inr rfl
    · exact hW p hp

include hO in
/-- The last wait hands back every row of the four gathers. -/
theorem wp_waitLast {sem : DmaSem sig} {A : Fin 4 → Rows → sProp (MM F)} {sp' : Space} {s s' : Shape} {e e' : EltTy}
    {src : Memref sig .scVector sp' s' e'} {dst : Memref sig .scVector .vmem s e} {hsrc : src.view.WordExact} {hdst : dst.view.WordExact}
    (hJ : dst.view.dmaCredit = 64 * 4096) {u : ℕ} (hu : u + 64 * 4096 = 4096 * 256)
    {α : Type} {kk : PUnit → Prog (TpuEff nD τ sig (Elt F) Λ₀ (at_ d L).2) α} {Q : α → sProp (MM F)} :
    (iprop(levAts (K (F := F)).L (K (F := F)).lev ∗ flight d L sem A 256 u ∗ owesN (at_ d L) O W) : sProp (MM F))
      ⊢ iprop((iprop(bigSep Finset.univ (grouped A) ∗ semVal (at_ d L, SemLoc.dma sem) 0 ∗ owesN (at_ d L) O W)
            -∗ wp frame (wpE (defs₀ (F := F)) 𝒱₀ (at_ d L) none) Set.univ (kk ⟨⟩) Q)
        -∗ wp frame (wpE (defs₀ (F := F)) 𝒱₀ (at_ d L) none) Set.univ (SparseCore.waitIndirectGather sem src dst hsrc hdst >>= kk) Q) := by
  iintro ⟨#Hlev, HB, HO⟩ Hk
  ihave Hmw := (show levAts (K (F := F)).L (K (F := F)).lev ⊢ Transfers.MayWaits (at_ d L) (default : HIx 1) O from
    (K (F := F)).mayWaits_none (thr := at_ d L) hO) $$ Hlev
  unfold owesN flight
  icases HO with ⟨%W', %hW, HO⟩
  iapply (Transfers.wp_waitBatchAllO countersEmb 𝒱₀ (at_ d L) none (default : HIx 1) (N := 4096) hJ (by decide) hu) $$ [HB HO Hmw]
  · isplitl [HB]; · iexact HB
    isplitl [HO]; · iexact HO
    iapply (Transfers.MayWaits.elim (SemLoc.dma sem)) $$ Hmw
  iintro ⟨HB, HS, HO⟩
  iapply Hk
  isplitl [HB]; · iexact HB
  isplitl [HS]; · iexact HS
  iexists _
  isplitr
  rotate_left
  · iexact HO
  · ipureintro
    intro p hp
    rcases Finset.mem_insert.mp hp with rfl | hp
    · exact Or.inr rfl
    · exact hW p hp

end Steps

end Cert.Gmf
-- ==== Proof.Tile.lean ====
module
public import proofs.«01_k».proof.Proof.Chunks

/-! One tile's work: the prologue, four chunks of 128 rows, each gathered while the chunk before is summed, and the results
copied out. -/

@[expose] public section
noncomputable section

namespace Cert.Gmf

open Cert.KernelIdeal Cert.KernelIdeal.Gen Cert.KernelIdeal.GatherBatch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Result `y` of a tile, whose row buffers hold `U (128 * c)` and `I (128 * c)` while chunk `c` is summed. -/
def result (N : Net) (b : Lane F) (w : Fin 8 → Lane F) (U I : ℕ → S128x128.Idx → F .f32) (y : S512.Idx) : F .f32 :=
  chunkVal N (folded N b w (U (128 * ((y 0).val / 128))) (I (128 * ((y 0).val / 128)))) ⟨(y 0).val % 128, Nat.mod_lt _ (by decide)⟩

section Parts
variable (d : Dev nD) (L : grid0.Coords)

theorem whole_own {sp : Space} {s : Shape} {e : EltTy} (m : Memref sig .scVector sp s e) (h : m.view.set = Finset.univ) (q : PosShare TreeShare)
    (f : Buf (Elt F) (m.view.loc (at_ d L))) : ((m.view.loc (at_ d L) ↦{q} f) : sProp (MM F)) = own d L m q f := by
  unfold own; rw [h]

theorem whole_part (l : Memref sig .scVector .vmem S512 .i32) (h : l.view.set = Finset.univ) (f : Buf (Elt F) (l.view.loc (at_ d L))) :
    ((l.view.loc (at_ d L) ↦{fullShare} f) : sProp (MM F))
      ⊢ iprop(own d L (part l 0 inb_S512_S64_0) fullShare f ∗ own d L (part l 64 inb_S512_S64_64) fullShare f
        ∗ own d L (part l 128 inb_S512_S64_128) fullShare f ∗ own d L (part l 192 inb_S512_S64_192) fullShare f
        ∗ own d L (part l 256 inb_S512_S64_256) fullShare f ∗ own d L (part l 320 inb_S512_S64_320) fullShare f
        ∗ own d L (part l 384 inb_S512_S64_384) fullShare f ∗ own d L (part l 448 inb_S512_S64_448) fullShare f) := by
  rw [whole_own d L l h, own_part]

theorem whole_half (a : Memref sig .scVector .vmem S128x128 .f32) (h : a.view.set = Finset.univ) (f : Buf (Elt F) (a.view.loc (at_ d L))) :
    ((a.view.loc (at_ d L) ↦{fullShare} f) : sProp (MM F))
      ⊢ iprop(own d L (half a 0 inb_S128x128_S64x128_0_0) fullShare f ∗ own d L (half a 64 inb_S128x128_S64x128_64_0) fullShare f) := by
  rw [whole_own d L a h, own_half]

theorem whole_tab (tab : Memref sig .scVector .hbm S100000x128 .f32) (h : tab.view.set = Finset.univ) (q : PosShare TreeShare) (f : Buf (Elt F) (tab.view.loc (at_ d L))) :
    ((tab.view.loc (at_ d L) ↦{q} f) : sProp (MM F))
      ⊢ iprop(own d L (tabAll tab) (quarter q 0) f ∗ own d L (tabAll tab) (quarter q 1) f
      ∗ own d L (tabAll tab) (quarter q 2) f ∗ own d L (tabAll tab) (quarter q 3) f) := by
  rw [whole_own d L tab h, own_tab]

theorem half_out (a : Memref sig .scVector .vmem S128x128 .f32) (f : Buf (Elt F) (a.view.loc (at_ d L))) :
    own d L a fullShare f
      ⊢ (iprop(own d L (half a 0 inb_S128x128_S64x128_0_0) fullShare f ∗ own d L (half a 64 inb_S128x128_S64x128_64_0) fullShare f) : sProp (MM F)) := by
  rw [own_half]

theorem part_in (l : Memref sig .scVector .vmem S512 .i32) (h : l.view.set = Finset.univ) (f : Buf (Elt F) (l.view.loc (at_ d L))) :
    (iprop(own d L (part l 0 inb_S512_S64_0) fullShare f ∗ own d L (part l 64 inb_S512_S64_64) fullShare f
        ∗ own d L (part l 128 inb_S512_S64_128) fullShare f ∗ own d L (part l 192 inb_S512_S64_192) fullShare f
        ∗ own d L (part l 256 inb_S512_S64_256) fullShare f ∗ own d L (part l 320 inb_S512_S64_320) fullShare f
        ∗ own d L (part l 384 inb_S512_S64_384) fullShare f ∗ own d L (part l 448 inb_S512_S64_448) fullShare f) : sProp (MM F))
      ⊢ (l.view.loc (at_ d L) ↦{fullShare} f) := by
  rw [whole_own d L l h, own_part]

theorem tab_in (tab : Memref sig .scVector .hbm S100000x128 .f32) (h : tab.view.set = Finset.univ) (q : PosShare TreeShare) (f : Buf (Elt F) (tab.view.loc (at_ d L))) :
    (iprop(own d L (tabAll tab) (quarter q 0) f ∗ own d L (tabAll tab) (quarter q 1) f
      ∗ own d L (tabAll tab) (quarter q 2) f ∗ own d L (tabAll tab) (quarter q 3) f) : sProp (MM F))
      ⊢ (tab.view.loc (at_ d L) ↦{q} f) := by
  rw [whole_own d L tab h, own_tab d L tab q f]

/-- The sums' buffer with the results of the first `k` chunks. -/
def outSo (res : S512.Idx → F .f32) (k : ℕ) : sProp (MM F) :=
  iprop(∃ f, (sOut.view.loc (at_ d L) ↦{fullShare} f) ∗ ⌜∀ y : S512.Idx, (y 0).val < 128 * k → sOut.view.read (Elt F) f y = res y⌝)

def anyQ : sProp (MM F) := iprop(∃ f, sQ.view.loc (at_ d L) ↦{fullShare} f)
def anyPerm : sProp (MM F) := iprop(∃ f, sPerm.view.loc (at_ d L) ↦{fullShare} f)

variable (X : Pro F)

theorem rows_enter (a b : Memref sig .scVector .vmem S128x128 .f32) (fa : Buf (Elt F) (a.view.loc (at_ d L))) (fb : Buf (Elt F) (b.view.loc (at_ d L))) :
    (iprop(own d L a fullShare fa ∗ own d L b fullShare fb ∗ anyQ d L ∗ anyPerm d L) : sProp (MM F)) ⊢ rowsInv d L a b X fa fb 0 ⟨⟩ := by
  unfold rowsInv anyQ anyPerm own
  iintro ⟨A, B, ⟨%f, Q⟩, P⟩
  isplitl [A]; · iexact A
  isplitl [B]; · iexact B
  isplitl [Q]
  · iexists f
    isplitl [Q]; · iexact Q
    ipureintro
    intro y h
    omega
  · iexact P

theorem rows_leave (a b : Memref sig .scVector .vmem S128x128 .f32) (fa : Buf (Elt F) (a.view.loc (at_ d L))) (fb : Buf (Elt F) (b.view.loc (at_ d L)))
    {U I : S128x128.Idx → F .f32} (ha : a.view.read (Elt F) fa = U) (hb : b.view.read (Elt F) fb = I) :
    rowsInv d L a b X fa fb 32 ⟨⟩
      ⊢ (iprop(own d L a fullShare fa ∗ own d L b fullShare fb
        ∗ (∃ f, (sQ.view.loc (at_ d L) ↦{fullShare} f) ∗ ⌜sQ.view.read (Elt F) f = folded X.net X.b X.w U I⌝) ∗ anyPerm d L) : sProp (MM F)) := by
  subst ha hb
  unfold rowsInv anyPerm own
  iintro ⟨A, B, ⟨%f, Q, %h⟩, P⟩
  isplitl [A]; · iexact A
  isplitl [B]; · iexact B
  isplitl [Q]
  · iexists f
    isplitl [Q]; · iexact Q
    ipureintro
    exact funext fun y => h y (y 0).isLt
  · iexact P

theorem sums_enter (c : Fin 4) (fq : Buf (Elt F) (sQ.view.loc (at_ d L))) (fo : Buf (Elt F) (sOut.view.loc (at_ d L))) :
    (iprop((sQ.view.loc (at_ d L) ↦{fullShare} fq) ∗ (sOut.view.loc (at_ d L) ↦{fullShare} fo) ∗ anyPerm d L) : sProp (MM F)) ⊢ sumsInv d L X c fq fo 0 ⟨⟩ := by
  unfold sumsInv anyPerm
  iintro ⟨Q, O, P⟩
  isplitl [Q]; · iexact Q
  isplitl [O]
  · iexists fo
    isplitl [O]; · iexact O
    ipureintro
    intro y
    exact ⟨fun h => by omega, fun _ => rfl⟩
  · iexact P

theorem sums_leave (U I : ℕ → S128x128.Idx → F .f32) (c : Fin 4) (k k' : ℕ) (hk : k = c.val) (hk' : k' = k + 1)
    (fq : Buf (Elt F) (sQ.view.loc (at_ d L))) (fo : Buf (Elt F) (sOut.view.loc (at_ d L)))
    (hq : sQ.view.read (Elt F) fq = folded X.net X.b X.w (U (128 * c.val)) (I (128 * c.val)))
    (ho : ∀ y : S512.Idx, (y 0).val < 128 * k → sOut.view.read (Elt F) fo y = result X.net X.b X.w U I y) :
    sumsInv d L X c fq fo 8 ⟨⟩ ⊢ (iprop(anyQ d L ∗ outSo d L (result X.net X.b X.w U I) k' ∗ anyPerm d L) : sProp (MM F)) := by
  subst hk hk'
  unfold sumsInv anyQ anyPerm outSo
  iintro ⟨Q, ⟨%f, O, %h⟩, P⟩
  isplitl [Q]; · iexists _; iexact Q
  isplitl [O]
  · iexists f
    isplitl [O]; · iexact O
    ipureintro
    intro y hy
    by_cases h1 : (y 0).val < 128 * c.val
    · exact ((h y).2 h1).trans (ho y h1)
    · have h2 := (h y).1 ⟨by omega, by omega, by omega⟩
      rw [h2, hq]
      unfold result
      have e : (y 0).val / 128 = c.val := by omega
      simp only [e]
      congr 2
      omega
  · iexact P

end Parts

/-- The words of the result that a tile writes. -/
abbrev outOf (L : grid0.Coords) : Memref sig .scVector .hbm S512 .f32 :=
  mOut.slice (Rect.unit (s := S16384) (k0_off82 L) S512.size (k0_off82_inb L)) (fun _ => rfl)

/-- One gathered row counts 4096 units, in whichever row buffer it lands; a gather's 64 rows count 64 times that. -/
theorem row_credit {a : Memref sig .scVector .vmem S128x128 .f32}
    (h : sig.dmaCredit .scVector (Kind.scVector.table .vmem) a.view.buf (S64x128.rowShape gathers_S100000x128_S64x128.axis') .f32 = 4096)
    (o : ℕ) (ho : ∀ x, (![o, 0] : Fin 2 → ℕ) x + S64x128.size x ≤ S128x128.size x) (r : Rows) :
    ((half a o ho).slice (S64x128.rowRect gathers_S100000x128_S64x128.axis' r) (S64x128.stride_rowRect gathers_S100000x128_S64x128.axis' r)).view.dmaCredit = 4096 := h

section Tile
variable (d : Dev nD) (L : grid0.Coords) (q : PosShare TreeShare)
variable (f0 : Buf (Elt F) (mUsers.view.loc (at_ d L))) (f1 : Buf (Elt F) (mItems.view.loc (at_ d L)))
variable (TU : Buf (Elt F) (mUTab.view.loc (at_ d L))) (TI : Buf (Elt F) (mITab.view.loc (at_ d L)))
variable (fw : Buf (Elt F) (mW.view.loc (at_ d L))) (fb : Buf (Elt F) (mB.view.loc (at_ d L)))

/-- What a tile computes from its words of the lists, the tables, the weights and the bias. -/
def tileResult : S512.Idx → F .f32 :=
  let X := pro (F := F) (mB.view.read (Elt F) fb only1) (mW.view.read (Elt F) fw)
  result X.net X.b X.w (fetched (mUTab.view.read (Elt F) TU) ((listOf mUsers L).view.read (Elt F) f0))
    (fetched (mITab.view.read (Elt F) TI) ((listOf mItems L).view.read (Elt F) f1))

/-- The inputs a tile reads, at a share. -/
def inputs : sProp (MM F) :=
  iprop((mUsers.view.loc (at_ d L) ↦{q} f0) ∗ (mItems.view.loc (at_ d L) ↦{q} f1) ∗ (mUTab.view.loc (at_ d L) ↦{q} TU) ∗ (mITab.view.loc (at_ d L) ↦{q} TI)
    ∗ (mW.view.loc (at_ d L) ↦{q} fw) ∗ (mB.view.loc (at_ d L) ↦{q} fb))

/-- A tile's own buffers, whatever they hold. -/
def scratch : sProp (MM F) :=
  iprop((∃ g, sUI.view.loc (at_ d L) ↦{fullShare} g) ∗ (∃ g, sII.view.loc (at_ d L) ↦{fullShare} g) ∗ (∃ g, sU0.view.loc (at_ d L) ↦{fullShare} g)
    ∗ (∃ g, sU1.view.loc (at_ d L) ↦{fullShare} g) ∗ (∃ g, sI0.view.loc (at_ d L) ↦{fullShare} g) ∗ (∃ g, sI1.view.loc (at_ d L) ↦{fullShare} g)
    ∗ (∃ g, sW.view.loc (at_ d L) ↦{fullShare} g) ∗ (∃ g, sB.view.loc (at_ d L) ↦{fullShare} g) ∗ (∃ g, sQ.view.loc (at_ d L) ↦{fullShare} g)
    ∗ (∃ g, sOut.view.loc (at_ d L) ↦{fullShare} g) ∗ (∃ g, sPerm.view.loc (at_ d L) ↦{fullShare} g))

/-- A tile's semaphores at zero. -/
def sems : sProp (MM F) :=
  iprop(semVal (at_ d L, SemLoc.dma cc0_scratch11.sem) 0 ∗ semVal (at_ d L, SemLoc.dma cc0_scratch12.sem) 0 ∗ semVal (at_ d L, SemLoc.dma cc0_scratch13.sem) 0
    ∗ semVal (at_ d L, SemLoc.dma cc0_scratch14.sem) 0 ∗ semVal (at_ d L, SemLoc.dma cc0_scratch15.sem) 0 ∗ semVal (at_ d L, SemLoc.dma cc0_scoped0.sem) 0)

set_option maxHeartbeats 4000000 in
/-- A tile's work. -/
theorem wp_tile (h0 : ∀ y, ((listOf mUsers L).view.read (Elt F) f0 y).toNat < 100000) (h1 : ∀ y, ((listOf mItems L).view.read (Elt F) f1 y).toNat < 100000)
    (fo : Buf (Elt F) (mOut.view.loc (at_ d L))) (O : CellTallies nD τ sig (HIx 1)) (W : Waits sig (HIx 1)) (hO : ∀ g, O g none = 0) {Q : PUnit → sProp (MM F)} :
    (iprop(levAts (K (F := F)).L (K (F := F)).lev ∗ inputs d L q f0 f1 TU TI fw fb ∗ own d L (outOf L) fullShare fo ∗ scratch d L ∗ sems d L
      ∗ owes (at_ d L) O W) : sProp (MM F))
    ⊢ iprop((iprop(inputs d L q f0 f1 TU TI fw fb
          ∗ (∃ g, ⌜∀ y, (outOf L).view.read (Elt F) g y = tileResult d L f0 f1 TU TI fw fb y⌝ ∗ own d L (outOf L) fullShare g)
          ∗ scratch d L ∗ sems d L ∗ owesN (at_ d L) O W) -∗ Q ⟨⟩)
      -∗ wp frame (wpE (defs₀ (F := F)) 𝒱₀ (at_ d L) none) Set.univ (cc0__gmf_body_skel (F := F) L mUsers (Memref.isWhole_whole _) mItems (Memref.isWhole_whole _) mUTab (Memref.isWhole_whole _) mITab (Memref.isWhole_whole _)
    mW (Memref.isWhole_whole _) mB (Memref.isWhole_whole _) mOut (Memref.isWhole_whole _) sUI (Memref.isWhole_whole _) sII (Memref.isWhole_whole _)
    sU0 (Memref.isWhole_whole _) sU1 (Memref.isWhole_whole _) sI0 (Memref.isWhole_whole _) sI1 (Memref.isWhole_whole _) sW (Memref.isWhole_whole _) sB (Memref.isWhole_whole _) sQ (Memref.isWhole_whole _)
    sOut (Memref.isWhole_whole _) sPerm (Memref.isWhole_whole _) cc0_scratch11 cc0_scratch12 cc0_scratch13 cc0_scratch14 cc0_scratch15 cc0_scoped0) Q) := by
  unfold inputs scratch sems
  iintro ⟨#Hlev, ⟨I0, I1, IU, II, Iw, Ib⟩, Hout, ⟨⟨%g0, Hui⟩, ⟨%g1, Hii⟩, ⟨%u0, U0⟩, ⟨%u1, U1⟩, ⟨%i0, J0⟩, ⟨%i1, J1⟩, ⟨%gw, Hsw⟩, ⟨%gb, Hsb⟩, ⟨%gq, Hq⟩, ⟨%go, Ho⟩, ⟨%gp, Hp⟩⟩,
    ⟨S11, S12, S13, S14, S15, S0⟩, HO⟩ Hk
  delta cc0__gmf_body_skel
  rw [k0_part33_eq_skeleton, k0_part34_eq_skeleton, k0_part35_eq_skeleton, k0_part36_eq_skeleton, k0_part37_eq_skeleton, k0_part38_eq_skeleton,
    k0_part39_eq_skeleton, k0_part40_eq_skeleton]
  iapply (wp_part33 d L q f0 f1 fw fb g0 g1 gw gb O W hO) $$ [I0 I1 Iw Ib Hui Hii Hsw Hsb S13 S14 S15 HO]
  · iframe
    iexact Hlev
  iintro ⟨I0, I1, Iw, Ib, ⟨%gu, Hui, %hu⟩, ⟨%gi, Hii, %hi⟩, ⟨%gw', Hsw, %hw⟩, Hsb, S13, S14, S15, HO⟩
  iapply (wp_part34 d L gw' hw) $$ Hsw
  iintro Hsw
  have hgu : ∀ y, (sUI.view.read (Elt F) gu y).toNat < 100000 := fun y => by rw [hu]; exact h0 y
  have hgi : ∀ y, (sII.view.read (Elt F) gi y).toNat < 100000 := fun y => by rw [hi]; exact h1 y
  have row_U0 := @row_credit sU0 (by decide +kernel)
  have row_U1 := @row_credit sU1 (by decide +kernel)
  have row_I0 := @row_credit sI0 (by decide +kernel)
  have row_I1 := @row_credit sI1 (by decide +kernel)
  have c5 := chk5
  ihave Hui := (whole_part d L sUI (View.set_whole _) gu) $$ Hui
  icases Hui with ⟨L0, L1, L2, L3, L4, L5, L6, L7⟩
  ihave Hii := (whole_part d L sII (View.set_whole _) gi) $$ Hii
  icases Hii with ⟨M0, M1, M2, M3, M4, M5, M6, M7⟩
  ihave IU := (whole_tab d L mUTab (View.set_whole _) q TU) $$ IU
  icases IU with ⟨TU0, TU1, TU2, TU3⟩
  ihave II := (whole_tab d L mITab (View.set_whole _) q TI) $$ II
  icases II with ⟨TI0, TI1, TI2, TI3⟩
  ihave U0 := (whole_half d L sU0 (View.set_whole _) u0) $$ U0
  icases U0 with ⟨UA0, UB0⟩
  ihave U1 := (whole_half d L sU1 (View.set_whole _) u1) $$ U1
  icases U1 with ⟨UA1, UB1⟩
  ihave J0 := (whole_half d L sI0 (View.set_whole _) i0) $$ J0
  icases J0 with ⟨JA0, JB0⟩
  ihave J1 := (whole_half d L sI1 (View.set_whole _) i1) $$ J1
  icases J1 with ⟨JA1, JB1⟩
  ihave Hq := (show (sQ.view.loc (at_ d L) ↦{fullShare} gq) ⊢ anyQ d L from by unfold anyQ; iintro H; iexists gq; iexact H) $$ Hq
  ihave Hp := (show (sPerm.view.loc (at_ d L) ↦{fullShare} gp) ⊢ anyPerm d L from by unfold anyPerm; iintro H; iexists gp; iexact H) $$ Hp
  ihave Ho := (show (sOut.view.loc (at_ d L) ↦{fullShare} go) ⊢ outSo d L (result (pro (mB.view.read (Elt F) fb only1) (mW.view.read (Elt F) fw)).net
      (pro (mB.view.read (Elt F) fb only1) (mW.view.read (Elt F) fw)).b (pro (mB.view.read (Elt F) fb only1) (mW.view.read (Elt F) fw)).w
      (fetched (mUTab.view.read (Elt F) TU) (sUI.view.read (Elt F) gu)) (fetched (mITab.view.read (Elt F) TI) (sII.view.read (Elt F) gi))) 0 from by
    unfold outSo; iintro H; iexists go; isplitl [H]; · iexact H
    ipureintro; intro y h; omega) $$ Ho
  imod (flight_start d L cc0_scratch11.sem (fam d L q 0 1 TU TI sU0 sI0 u0 i0 gu hgu gi hgi 0 64 inb_S512_S64_0 inb_S512_S64_64)) $$ S11 with F0
  imod (flight_start d L cc0_scratch12.sem (fam d L q 2 3 TU TI sU1 sI1 u1 i1 gu hgu gi hgi 128 192 inb_S512_S64_128 inb_S512_S64_192)) $$ S12 with F1
  sl_unfold [k0_part35_skel]
  sl_exec
  iapply (wp_start d L hgu (row_U0 _ _) (fam d L q 0 1 TU TI sU0 sI0 u0 i0 gu hgu gi hgi 0 64 inb_S512_S64_0 inb_S512_S64_64) 0 rfl rfl rfl) $$ [TU0 UA0 L0 F0]
  · iframe
  iintro F0
  sl_exec
  iapply (wp_start d L hgi (row_I0 _ _) (fam d L q 0 1 TU TI sU0 sI0 u0 i0 gu hgu gi hgi 0 64 inb_S512_S64_0 inb_S512_S64_64) 1 rfl rfl rfl) $$ [TI0 JA0 M0 F0]
  · iframe
  iintro F0
  sl_exec
  iapply (wp_start d L hgu (row_U0 _ _) (fam d L q 0 1 TU TI sU0 sI0 u0 i0 gu hgu gi hgi 0 64 inb_S512_S64_0 inb_S512_S64_64) 2 rfl rfl rfl) $$ [TU1 UB0 L1 F0]
  · iframe
  iintro F0
  sl_exec
  iapply (wp_start d L hgi (row_I0 _ _) (fam d L q 0 1 TU TI sU0 sI0 u0 i0 gu hgu gi hgi 0 64 inb_S512_S64_0 inb_S512_S64_64) 3 rfl rfl rfl) $$ [TI1 JB0 M1 F0]
  · iframe
  iintro F0
  sl_exec
  iapply (wp_start d L hgu (row_U1 _ _) (fam d L q 2 3 TU TI sU1 sI1 u1 i1 gu hgu gi hgi 128 192 inb_S512_S64_128 inb_S512_S64_192) 0 rfl rfl rfl) $$ [TU2 UA1 L2 F1]
  · iframe
  iintro F1
  sl_exec
  iapply (wp_start d L hgi (row_I1 _ _) (fam d L q 2 3 TU TI sU1 sI1 u1 i1 gu hgu gi hgi 128 192 inb_S512_S64_128 inb_S512_S64_192) 1 rfl rfl rfl) $$ [TI2 JA1 M2 F1]
  · iframe
  iintro F1
  sl_exec
  iapply (wp_start d L hgu (row_U1 _ _) (fam d L q 2 3 TU TI sU1 sI1 u1 i1 gu hgu gi hgi 128 192 inb_S512_S64_128 inb_S512_S64_192) 2 rfl rfl rfl) $$ [TU3 UB1 L3 F1]
  · iframe
  iintro F1
  sl_exec
  iapply (wp_start d L hgi (row_I1 _ _) (fam d L q 2 3 TU TI sU1 sI1 u1 i1 gu hgu gi hgi 128 192 inb_S512_S64_128 inb_S512_S64_192) 3 rfl rfl rfl) $$ [TI3 JB1 M3 F1]
  · iframe
  iintro F1
  sl_exec
  iapply (wp_waitSome d L O W hO (by decide +kernel) (u := 0) (u' := 262144) rfl (by decide)) $$ [F0 HO]
  · iframe
    iexact Hlev
  iintro ⟨F0, HO⟩
  sl_exec
  iapply (wp_waitSome d L O W hO (by decide +kernel) (u := 262144) (u' := 524288) rfl (by decide)) $$ [F0 HO]
  · iframe
    iexact Hlev
  iintro ⟨F0, HO⟩
  sl_exec
  iapply (wp_waitSome d L O W hO (by decide +kernel) (u := 524288) (u' := 786432) rfl (by decide)) $$ [F0 HO]
  · iframe
    iexact Hlev
  iintro ⟨F0, HO⟩
  sl_exec
  iapply (wp_waitLast d L O W hO (by decide +kernel) (u := 786432) rfl) $$ [F0 HO]
  · iframe
    iexact Hlev
  iintro ⟨F0, S, HO⟩
  sl_exec
  ihave F0 := (chunk_landed d L q 0 1 TU TI sU0 sI0 u0 i0 gu hgu gi hgi 0 64 inb_S512_S64_0 inb_S512_S64_64 rfl) $$ F0
  icases F0 with ⟨⟨%u2, %hu2, UA⟩, ⟨%i2, %hi2, JA⟩, TU0, TI0, TU1, TI1, L0, M0, L1, M1⟩
  ihave HI := (rows_enter d L (pro (mB.view.read (Elt F) fb only1) (mW.view.read (Elt F) fw)) sU0 sI0 u2 i2) $$ [UA JA Hq Hp]
  · iframe
  iapply (wp_rows1 d L (pro (mB.view.read (Elt F) fb only1) (mW.view.read (Elt F) fw)) u2 i2) $$ HI
  iintro HI
  ihave HI := (rows_leave d L (pro (mB.view.read (Elt F) fb only1) (mW.view.read (Elt F) fw)) sU0 sI0 u2 i2 hu2 hi2) $$ HI
  icases HI with ⟨UA, JA, ⟨%q0, HQ, %hq0⟩, Hp⟩
  sl_exec
  unfold outSo
  icases Ho with ⟨%o0, Ho, %ho0⟩
  ihave HI := (sums_enter d L (pro (mB.view.read (Elt F) fb only1) (mW.view.read (Elt F) fw)) 0 q0 o0) $$ [HQ Ho Hp]
  · iframe
  iapply (wp_sums2 d L (pro (mB.view.read (Elt F) fb only1) (mW.view.read (Elt F) fw)) q0 o0) $$ HI
  iintro HI
  ihave HI := (sums_leave d L (pro (mB.view.read (Elt F) fb only1) (mW.view.read (Elt F) fw)) (fetched (mUTab.view.read (Elt F) TU) (sUI.view.read (Elt F) gu)) (fetched (mITab.view.read (Elt F) TI) (sII.view.read (Elt F) gi)) 0 0 1 rfl rfl q0 o0 hq0 ho0) $$ HI
  icases HI with ⟨Hq, Ho, Hp⟩
  ihave UA := (half_out d L sU0 u2) $$ UA
  icases UA with ⟨UA0, UB0⟩
  ihave JA := (half_out d L sI0 i2) $$ JA
  icases JA with ⟨JA0, JB0⟩
  imod (flight_start d L cc0_scratch11.sem (fam d L q 0 1 TU TI sU0 sI0 u2 i2 gu hgu gi hgi 256 320 inb_S512_S64_256 inb_S512_S64_320)) $$ S with F0
  sl_exec
  iapply (wp_start d L hgu (row_U0 _ _) (fam d L q 0 1 TU TI sU0 sI0 u2 i2 gu hgu gi hgi 256 320 inb_S512_S64_256 inb_S512_S64_320) 0 rfl rfl rfl) $$ [TU0 UA0 L4 F0]
  · iframe
  iintro F0
  sl_exec
  iapply (wp_start d L hgi (row_I0 _ _) (fam d L q 0 1 TU TI sU0 sI0 u2 i2 gu hgu gi hgi 256 320 inb_S512_S64_256 inb_S512_S64_320) 1 rfl rfl rfl) $$ [TI0 JA0 M4 F0]
  · iframe
  iintro F0
  sl_exec
  iapply (wp_start d L hgu (row_U0 _ _) (fam d L q 0 1 TU TI sU0 sI0 u2 i2 gu hgu gi hgi 256 320 inb_S512_S64_256 inb_S512_S64_320) 2 rfl rfl rfl) $$ [TU1 UB0 L5 F0]
  · iframe
  iintro F0
  sl_exec
  iapply (wp_start d L hgi (row_I0 _ _) (fam d L q 0 1 TU TI sU0 sI0 u2 i2 gu hgu gi hgi 256 320 inb_S512_S64_256 inb_S512_S64_320) 3 rfl rfl rfl) $$ [TI1 JB0 M5 F0]
  · iframe
  iintro F0
  sl_exec
  iapply (wp_waitSome d L O W hO (by decide +kernel) (u := 0) (u' := 262144) rfl (by decide)) $$ [F1 HO]
  · iframe
    iexact Hlev
  iintro ⟨F1, HO⟩
  sl_exec
  iapply (wp_waitSome d L O W hO (by decide +kernel) (u := 262144) (u' := 524288) rfl (by decide)) $$ [F1 HO]
  · iframe
    iexact Hlev
  iintro ⟨F1, HO⟩
  sl_exec
  iapply (wp_waitSome d L O W hO (by decide +kernel) (u := 524288) (u' := 786432) rfl (by decide)) $$ [F1 HO]
  · iframe
    iexact Hlev
  iintro ⟨F1, HO⟩
  sl_exec
  iapply (wp_waitLast d L O W hO (by decide +kernel) (u := 786432) rfl) $$ [F1 HO]
  · iframe
    iexact Hlev
  iintro ⟨F1, S, HO⟩
  sl_exec
  ihave F1 := (chunk_landed d L q 2 3 TU TI sU1 sI1 u1 i1 gu hgu gi hgi 128 192 inb_S512_S64_128 inb_S512_S64_192 rfl) $$ F1
  icases F1 with ⟨⟨%u3, %hu3, UA⟩, ⟨%i3, %hi3, JA⟩, TU2, TI2, TU3, TI3, L2, M2, L3, M3⟩
  ihave HI := (rows_enter d L (pro (mB.view.read (Elt F) fb only1) (mW.view.read (Elt F) fw)) sU1 sI1 u3 i3) $$ [UA JA Hq Hp]
  · iframe
  iapply (wp_rows3 d L (pro (mB.view.read (Elt F) fb only1) (mW.view.read (Elt F) fw)) u3 i3) $$ HI
  iintro HI
  ihave HI := (rows_leave d L (pro (mB.view.read (Elt F) fb only1) (mW.view.read (Elt F) fw)) sU1 sI1 u3 i3 hu3 hi3) $$ HI
  icases HI with ⟨UA, JA, ⟨%q1, HQ, %hq1⟩, Hp⟩
  sl_exec
  unfold outSo
  icases Ho with ⟨%o1, Ho, %ho1⟩
  ihave HI := (sums_enter d L (pro (mB.view.read (Elt F) fb only1) (mW.view.read (Elt F) fw)) 1 q1 o1) $$ [HQ Ho Hp]
  · iframe
  iapply (wp_sums4 d L (pro (mB.view.read (Elt F) fb only1) (mW.view.read (Elt F) fw)) q1 o1) $$ HI
  iintro HI
  ihave HI := (sums_leave d L (pro (mB.view.read (Elt F) fb only1) (mW.view.read (Elt F) fw)) (fetched (mUTab.view.read (Elt F) TU) (sUI.view.read (Elt F) gu)) (fetched (mITab.view.read (Elt F) TI) (sII.view.read (Elt F) gi)) 1 1 2 rfl rfl q1 o1 hq1 ho1) $$ HI
  icases HI with ⟨Hq, Ho, Hp⟩
  ihave UA := (half_out d L sU1 u3) $$ UA
  icases UA with ⟨UA1, UB1⟩
  ihave JA := (half_out d L sI1 i3) $$ JA
  icases JA with ⟨JA1, JB1⟩
  imod (flight_start d L cc0_scratch12.sem (fam d L q 2 3 TU TI sU1 sI1 u3 i3 gu hgu gi hgi 384 448 inb_S512_S64_384 inb_S512_S64_448)) $$ S with F1
  sl_exec
  iapply (wp_start d L hgu (row_U1 _ _) (fam d L q 2 3 TU TI sU1 sI1 u3 i3 gu hgu gi hgi 384 448 inb_S512_S64_384 inb_S512_S64_448) 0 rfl rfl rfl) $$ [TU2 UA1 L6 F1]
  · iframe
  iintro F1
  sl_exec
  iapply (wp_start d L hgi (row_I1 _ _) (fam d L q 2 3 TU TI sU1 sI1 u3 i3 gu hgu gi hgi 384 448 inb_S512_S64_384 inb_S512_S64_448) 1 rfl rfl rfl) $$ [TI2 JA1 M6 F1]
  · iframe
  iintro F1
  sl_exec
  iapply (wp_start d L hgu (row_U1 _ _) (fam d L q 2 3 TU TI sU1 sI1 u3 i3 gu hgu gi hgi 384 448 inb_S512_S64_384 inb_S512_S64_448) 2 rfl rfl rfl) $$ [TU3 UB1 L7 F1]
  · iframe
  iintro F1
  sl_exec
  iapply (wp_start d L hgi (row_I1 _ _) (fam d L q 2 3 TU TI sU1 sI1 u3 i3 gu hgu gi hgi 384 448 inb_S512_S64_384 inb_S512_S64_448) 3 rfl rfl rfl) $$ [TI3 JB1 M7 F1]
  · iframe
  iintro F1
  sl_exec
  iapply (wp_waitSome d L O W hO (by decide +kernel) (u := 0) (u' := 262144) rfl (by decide)) $$ [F0 HO]
  · iframe
    iexact Hlev
  iintro ⟨F0, HO⟩
  sl_exec
  iapply (wp_waitSome d L O W hO (by decide +kernel) (u := 262144) (u' := 524288) rfl (by decide)) $$ [F0 HO]
  · iframe
    iexact Hlev
  iintro ⟨F0, HO⟩
  sl_exec
  iapply (wp_waitSome d L O W hO (by decide +kernel) (u := 524288) (u' := 786432) rfl (by decide)) $$ [F0 HO]
  · iframe
    iexact Hlev
  iintro ⟨F0, HO⟩
  sl_exec
  iapply (wp_waitLast d L O W hO (by decide +kernel) (u := 786432) rfl) $$ [F0 HO]
  · iframe
    iexact Hlev
  iintro ⟨F0, S, HO⟩
  sl_exec
  ihave F0 := (chunk_landed d L q 0 1 TU TI sU0 sI0 u2 i2 gu hgu gi hgi 256 320 inb_S512_S64_256 inb_S512_S64_320 rfl) $$ F0
  icases F0 with ⟨⟨%u4, %hu4, UA⟩, ⟨%i4, %hi4, JA⟩, TU0, TI0, TU1, TI1, L4, M4, L5, M5⟩
  ihave HI := (rows_enter d L (pro (mB.view.read (Elt F) fb only1) (mW.view.read (Elt F) fw)) sU0 sI0 u4 i4) $$ [UA JA Hq Hp]
  · iframe
  iapply (wp_rows5 d L (pro (mB.view.read (Elt F) fb only1) (mW.view.read (Elt F) fw)) u4 i4) $$ HI
  iintro HI
  ihave HI := (rows_leave d L (pro (mB.view.read (Elt F) fb only1) (mW.view.read (Elt F) fw)) sU0 sI0 u4 i4 hu4 hi4) $$ HI
  icases HI with ⟨UA, JA, ⟨%q2, HQ, %hq2⟩, Hp⟩
  sl_exec
  unfold outSo
  icases Ho with ⟨%o2, Ho, %ho2⟩
  ihave HI := (sums_enter d L (pro (mB.view.read (Elt F) fb only1) (mW.view.read (Elt F) fw)) 2 q2 o2) $$ [HQ Ho Hp]
  · iframe
  iapply (wp_sums6 d L (pro (mB.view.read (Elt F) fb only1) (mW.view.read (Elt F) fw)) q2 o2) $$ HI
  iintro HI
  ihave HI := (sums_leave d L (pro (mB.view.read (Elt F) fb only1) (mW.view.read (Elt F) fw)) (fetched (mUTab.view.read (Elt F) TU) (sUI.view.read (Elt F) gu)) (fetched (mITab.view.read (Elt F) TI) (sII.view.read (Elt F) gi)) 2 2 3 rfl rfl q2 o2 hq2 ho2) $$ HI
  icases HI with ⟨Hq, Ho, Hp⟩
  sl_exec
  iapply (wp_waitSome d L O W hO (by decide +kernel) (u := 0) (u' := 262144) rfl (by decide)) $$ [F1 HO]
  · iframe
    iexact Hlev
  iintro ⟨F1, HO⟩
  sl_exec
  iapply (wp_waitSome d L O W hO (by decide +kernel) (u := 262144) (u' := 524288) rfl (by decide)) $$ [F1 HO]
  · iframe
    iexact Hlev
  iintro ⟨F1, HO⟩
  sl_exec
  iapply (wp_waitSome d L O W hO (by decide +kernel) (u := 524288) (u' := 786432) rfl (by decide)) $$ [F1 HO]
  · iframe
    iexact Hlev
  iintro ⟨F1, HO⟩
  sl_exec
  iapply (wp_waitLast d L O W hO (by decide +kernel) (u := 786432) rfl) $$ [F1 HO]
  · iframe
    iexact Hlev
  iintro ⟨F1, S12, HO⟩
  sl_exec
  ihave F1 := (chunk_landed d L q 2 3 TU TI sU1 sI1 u3 i3 gu hgu gi hgi 384 448 inb_S512_S64_384 inb_S512_S64_448 rfl) $$ F1
  icases F1 with ⟨⟨%u5, %hu5, UC⟩, ⟨%i5, %hi5, JC⟩, TU2, TI2, TU3, TI3, L6, M6, L7, M7⟩
  ihave HI := (rows_enter d L (pro (mB.view.read (Elt F) fb only1) (mW.view.read (Elt F) fw)) sU1 sI1 u5 i5) $$ [UC JC Hq Hp]
  · iframe
  iapply (wp_rows7 d L (pro (mB.view.read (Elt F) fb only1) (mW.view.read (Elt F) fw)) u5 i5) $$ HI
  iintro HI
  ihave HI := (rows_leave d L (pro (mB.view.read (Elt F) fb only1) (mW.view.read (Elt F) fw)) sU1 sI1 u5 i5 hu5 hi5) $$ HI
  icases HI with ⟨UC, JC, ⟨%q3, HQ, %hq3⟩, Hp⟩
  sl_exec
  unfold outSo
  icases Ho with ⟨%o3, Ho, %ho3⟩
  ihave HI := (sums_enter d L (pro (mB.view.read (Elt F) fb only1) (mW.view.read (Elt F) fw)) 3 q3 o3) $$ [HQ Ho Hp]
  · iframe
  iapply (wp_sums8 d L (pro (mB.view.read (Elt F) fb only1) (mW.view.read (Elt F) fw)) q3 o3) $$ HI
  iintro HI
  ihave HI := (sums_leave d L (pro (mB.view.read (Elt F) fb only1) (mW.view.read (Elt F) fw)) (fetched (mUTab.view.read (Elt F) TU) (sUI.view.read (Elt F) gu)) (fetched (mITab.view.read (Elt F) TI) (sII.view.read (Elt F) gi)) 3 3 4 rfl rfl q3 o3 hq3 ho3) $$ HI
  icases HI with ⟨Hq, Ho, Hp⟩
  unfold outSo owesN
  icases Ho with ⟨%of, Ho, %hof⟩
  icases HO with ⟨%W', %hW, HO⟩
  ihave Hmw := (show levAts (K (F := F)).L (K (F := F)).lev ⊢ Transfers.MayWaits (at_ d L) (default : HIx 1) O from
    (K (F := F)).mayWaits_none (thr := at_ d L) hO) $$ Hlev
  sl_exec
  ihave Hui := (part_in d L sUI (View.set_whole _) gu) $$ [L0 L1 L2 L3 L4 L5 L6 L7]
  · iframe
  ihave Hii := (part_in d L sII (View.set_whole _) gi) $$ [M0 M1 M2 M3 M4 M5 M6 M7]
  · iframe
  ihave IU := (tab_in d L mUTab (View.set_whole _) q TU) $$ [TU0 TU1 TU2 TU3]
  · iframe
  ihave II := (tab_in d L mITab (View.set_whole _) q TI) $$ [TI0 TI1 TI2 TI3]
  · iframe
  ihave UA := (show own d L sU0 fullShare u4 ⊢ (sU0.view.loc (at_ d L) ↦{fullShare} u4) from by rw [whole_own d L sU0 (View.set_whole _)]) $$ UA
  ihave JA := (show own d L sI0 fullShare i4 ⊢ (sI0.view.loc (at_ d L) ↦{fullShare} i4) from by rw [whole_own d L sI0 (View.set_whole _)]) $$ JA
  ihave UC := (show own d L sU1 fullShare u5 ⊢ (sU1.view.loc (at_ d L) ↦{fullShare} u5) from by rw [whole_own d L sU1 (View.set_whole _)]) $$ UC
  ihave JC := (show own d L sI1 fullShare i5 ⊢ (sI1.view.loc (at_ d L) ↦{fullShare} i5) from by rw [whole_own d L sI1 (View.set_whole _)]) $$ JC
  unfold anyQ anyPerm
  rw [wp_ret]
  imodintro
  iapply Hk
  isplitl [I0 I1 IU II Iw Ib]
  · iframe
  isplitl [Hout]
  · iexists _
    isplitr
    rotate_left
    · iexact Hout
    · ipureintro
      intro y
      rw [View.read_writes_whole]
      delta wp_tile.sl.dma0 tileResult
      rw [← funext hu, ← funext hi]
      exact hof y (y 0).isLt
  isplitl [Hui Hii UA UC JA JC Hsw Hsb Hq Ho Hp]
  · isplitl [Hui]; · iexists _; iexact Hui
    isplitl [Hii]; · iexists _; iexact Hii
    isplitl [UA]; · iexists _; iexact UA
    isplitl [UC]; · iexists _; iexact UC
    isplitl [JA]; · iexists _; iexact JA
    isplitl [JC]; · iexists _; iexact JC
    isplitl [Hsw]; · iexists _; iexact Hsw
    isplitl [Hsb]; · iexact Hsb
    isplitl [Hq]; · iexact Hq
    isplitl [Ho]; · iexists _; iexact Ho
    iexact Hp
  isplitl [S S12 S13 S14 S15 S0]
  · isplitl [S]; · iexact S
    isplitl [S12]; · iexact S12
    isplitl [S13]; · iexact S13
    isplitl [S14]; · iexact S14
    isplitl [S15]; · iexact S15
    iexact S0
  iexists _
  isplitr
  rotate_left
  · iexact HO
  · ipureintro
    intro p hp
    rcases Finset.mem_insert.mp hp with rfl | hp
    · exact Or.inr rfl
    · exact hW p hp

end Tile

end Cert.Gmf
-- ==== Proof.Subcore.lean ====
module
public import proofs.«01_k».proof.Proof.Tile

/-! The kernel on one vector subcore, as the launch asks for it: from the inputs at a share and the subcore's words of the
result, to the same with those words holding what the kernel computes. -/

@[expose] public section
noncomputable section

namespace Cert.Gmf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The buffers and semaphores of a subcore -/

/-- A family over a set, the members that an injection names apart from the others. -/
theorem bigSep_named {I J : Type} [DecidableEq I] {s : Finset I} {t : Finset J} (f : J → I) (hf : Function.Injective f) (h : ∀ j ∈ t, f j ∈ s)
    (Φ : I → sProp (MM F)) : bigSep s Φ = iprop(bigSep t (fun j => Φ (f j)) ∗ bigSep (s \ t.image f) Φ) := by
  have e : t.image f = t.map ⟨f, hf⟩ := (Finset.map_eq_image ⟨f, hf⟩ t).symm
  have hs : t.image f ⊆ s := fun x hx => by
    obtain ⟨j, hj, rfl⟩ := Finset.mem_image.mp hx
    exact h j hj
  refine (bigSep_sdiff_split hs).trans ?_
  conv_lhs => enter [1]; rw [e, bigSep_map]
  rfl

section Own
variable (d : Dev nD) (L : grid0.Coords)

/-- The kernel's scratch buffers. -/
def scratchRefs : Finset (Ref sig .scVector) :=
  {cc0_scratch0, cc0_scratch1, cc0_scratch2, cc0_scratch3, cc0_scratch4, cc0_scratch5, cc0_scratch6, cc0_scratch7, cc0_scratch8, cc0_scratch9, cc0_scratch10}

/-- The kernel's semaphores. -/
def scratchSems : Finset (SemLoc sig) :=
  {.dma cc0_scratch11.sem, .dma cc0_scratch12.sem, .dma cc0_scratch13.sem, .dma cc0_scratch14.sem, .dma cc0_scratch15.sem, .dma cc0_scoped0.sem}

/-- What else a subcore owns. -/
def otherBufs : sProp (MM F) :=
  bigSep ((ownRefs (τ := τ) (sig := sig) (.scVector (cV L) (jV L))) \ scratchRefs.image (Proc.scVector (cV L) (jV L)).devRef)
    fun b => iprop(∃ f, ((d, b) : Loc nD τ sig) ↦{fullShare} f)
def otherSems : sProp (MM F) :=
  bigSep (ownCells (at_ d L) \ scratchSems.image (Prod.mk (at_ d L))) fun g => semVal g 0

theorem ownBufs_V : (ownBufs (at_ d L) : sProp (MM F)) = iprop(scratch d L ∗ otherBufs d L) := by
  unfold SparseCore.Cfg.ownBufs
  rw [bigSep_named (t := scratchRefs) (Proc.scVector (cV L) (jV L)).devRef (Proc.devRef_injective _)
    (fun j hj => SparseCore.Cfg.mem_ownRefs_of_owner (by
      unfold scratchRefs at hj
      simp only [Finset.mem_insert, Finset.mem_singleton] at hj
      rcases hj with rfl | rfl | rfl | rfl | rfl | rfl | rfl | rfl | rfl | rfl | rfl <;> rfl))]
  unfold scratchRefs scratch otherBufs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem ownSems0_V : (ownSems0 (at_ d L) : sProp (MM F)) = iprop(sems d L ∗ otherSems d L) := by
  unfold SparseCore.Cfg.ownSems0
  rw [bigSep_named (t := scratchSems) (Prod.mk (at_ d L)) (Prod.mk_right_injective _)
    (fun j hj => mem_ownCells.mpr ⟨rfl, (show ∀ j ∈ scratchSems, (SemLoc.isScoped (sig := sig) .scVector j) = true by unfold scratchSems; decide) j hj⟩)]
  unfold scratchSems sems otherSems
  rw [SparseCore.bigSep_insert' (by decide), SparseCore.bigSep_insert' (by decide), SparseCore.bigSep_insert' (by decide), SparseCore.bigSep_insert' (by decide),
    SparseCore.bigSep_insert' (by decide), bigSep_singleton]
  rfl

end Own

/-! ## What the kernel computes -/

/-- The subcore `i` of the SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The subcore that computes word `n` of the result: 512 words to a subcore, the two SparseCores in turn. -/
def tileOf (n : S16384.Idx) : grid0.Coords :=
  coordsV ⟨(n 0).val / 512 % 2, Nat.mod_lt _ (by decide)⟩ ⟨(n 0).val / 1024, by have h : (n 0).val < 16384 := (n 0).isLt; show _ < 16; omega⟩

/-- Where word `n` of the result lies among its subcore's. -/
def placeOf (n : S16384.Idx) : S512.Idx := fun a => match a with | 0 => ⟨(n 0).val % 512, Nat.mod_lt _ (by decide)⟩

section Value
variable (d : Dev nD)
variable (f0 f1 : Buf (Elt F) ((SparseCore.T d : Thread nD τ).loc main_arg0)) (TU TI : Buf (Elt F) ((SparseCore.T d : Thread nD τ).loc main_arg2))
variable (fw : Buf (Elt F) ((SparseCore.T d : Thread nD τ).loc main_v0)) (fb : Buf (Elt F) ((SparseCore.T d : Thread nD τ).loc main_arg5))

/-- The kernel's result, all subcores' words together. -/
def kernelOut : Buf (Elt F) ((SparseCore.T d : Thread nD τ).loc main_v1) :=
  fun n => tileResult d (tileOf n) f0 f1 TU TI fw fb (placeOf n)

omit [FloatOps F] in
theorem outOf_emb (L : grid0.Coords) (y : S512.Idx) : ((outOf L).view.emb y 0).val = 1024 * (L 1).val + 512 * (L 0).val + (y 0).val := by
  show (k0_off82 L) 0 + 1 * (y 0).val = _
  rw [k0_off82_eq]; show 1024 * (L 1).val + 512 * (L 0).val + 1 * (y 0).val = _; omega

omit [FloatOps F] in
theorem tileOf_emb (L : grid0.Coords) (y : S512.Idx) : tileOf ((outOf L).view.emb y) = L := by
  have h0 : (L 0).val < 2 := (L 0).isLt
  have h1 : (L 1).val < 16 := (L 1).isLt
  have hy : (y 0).val < 512 := (y 0).isLt
  have e := outOf_emb L y
  funext a
  match a with
  | 0 => exact Fin.ext (by show ((outOf L).view.emb y 0).val / 512 % 2 = _; rw [e]; omega)
  | 1 => exact Fin.ext (by show ((outOf L).view.emb y 0).val / 1024 = _; rw [e]; omega)

omit [FloatOps F] in
theorem placeOf_emb (L : grid0.Coords) (y : S512.Idx) : placeOf ((outOf L).view.emb y) = y := by
  have hy : (y 0).val < 512 := (y 0).isLt
  have e := outOf_emb L y
  funext a
  match a with
  | 0 => exact Fin.ext (by show ((outOf L).view.emb y 0).val % 512 = _; rw [e]; omega)

/-- A subcore's words, once they hold its results, are the kernel's. -/
theorem own_kernelOut (L : grid0.Coords) (g : Buf (Elt F) ((outOf L).view.loc (at_ d L)))
    (hg : ∀ y, (outOf L).view.read (Elt F) g y = tileResult d L f0 f1 TU TI fw fb y) :
    (own d L (outOf L) fullShare g : sProp (MM F)) = own d L (outOf L) fullShare (kernelOut d f0 f1 TU TI fw fb) := by
  unfold own
  refine pointsTo_congr fun n hn => ?_
  obtain ⟨y, -, rfl⟩ := Finset.mem_map.mp hn
  have e : kernelOut d f0 f1 TU TI fw fb ((outOf L).view.emb y) = tileResult d L f0 f1 TU TI fw fb y := by
    unfold kernelOut
    rw [tileOf_emb, placeOf_emb]
  rw [← hg y] at e
  exact e.symm

/-- The kernel on one subcore. -/
theorem tile_body (L : grid0.Coords) (q : PosShare TreeShare) (hF : (K (F := F)).Facts)
    (h0 : ∀ y, BitVec.toNat (f0 y) < 100000) (h1 : ∀ y, BitVec.toNat (f1 y) < 100000)
    (fo : Buf (Elt F) ((SparseCore.T d : Thread nD τ).loc main_v1))
    (O : CellTallies nD τ sig (HIx 1)) (W : Waits sig (HIx 1)) (hO : ∀ g, O g none = 0) :
    (iprop(levAts (K (F := F)).L (K (F := F)).lev ∗ emp
        ∗ (inputs d L q f0 f1 TU TI fw fb ∗ own d L (outOf L) fullShare fo)
        ∗ scopedBufs (at_ d L) ∗ scopedSems0 (at_ d L) ∗ owes (at_ d L) O W) : sProp (MM F))
      ⊢ wp frame (wpE (defs₀ (F := F)) 𝒱₀ (at_ d L) none) Set.univ
          (cc0__gmf_body (F := F) L mUsers (Memref.isWhole_whole _) mItems (Memref.isWhole_whole _) mUTab (Memref.isWhole_whole _) mITab (Memref.isWhole_whole _)
            mW (Memref.isWhole_whole _) mB (Memref.isWhole_whole _) mOut (Memref.isWhole_whole _) sUI (Memref.isWhole_whole _) sII (Memref.isWhole_whole _)
            sU0 (Memref.isWhole_whole _) sU1 (Memref.isWhole_whole _) sI0 (Memref.isWhole_whole _) sI1 (Memref.isWhole_whole _) sW (Memref.isWhole_whole _) sB (Memref.isWhole_whole _) sQ (Memref.isWhole_whole _)
            sOut (Memref.isWhole_whole _) sPerm (Memref.isWhole_whole _) cc0_scratch11 cc0_scratch12 cc0_scratch13 cc0_scratch14 cc0_scratch15 cc0_scoped0)
          fun _ => iprop((inputs d L q f0 f1 TU TI fw fb ∗ own d L (outOf L) fullShare (kernelOut d f0 f1 TU TI fw fb))
            ∗ scopedBufs (at_ d L) ∗ scopedSems0 (at_ d L) ∗ owesN (at_ d L) O W) := by
  rw [cc0__gmf_body_eq_skeleton]
  rw [(K (F := F)).scopedBufs_V hF d (cV L) (jV L), SparseCore.Cfg.scopedSems0_V (Val := Elt F) d (cV L) (jV L), ownSems0_V, ownBufs_V]
  iintro ⟨#Hlv, -, ⟨Hin, Hout⟩, ⟨Hs, Hbufs⟩, ⟨Hm, Hsems⟩, HO⟩
  iapply (wp_tile d L q f0 f1 TU TI fw fb (fun y => h0 _) (fun y => h1 _) fo O W hO) $$ [Hin Hout Hs Hm HO]
  · iframe
    iexact Hlv
  iintro ⟨Hin, ⟨%g, %hg, Hout⟩, Hs, Hm, HO⟩
  ihave Hout := (Entails.of_eq (own_kernelOut d f0 f1 TU TI fw fb L g hg)) $$ Hout
  iframe

end Value
end Cert.Gmf
-- ==== Proof.Launch.lean ====
module
public import proofs.«01_k».proof.Proof.Subcore

/-! The program's run: the weights' reshape, the kernel on the thirty-two subcores, the result's reshape. -/

@[expose] public section
noncomputable section

namespace Cert.Gmf

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-! ## The arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev w' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opW : HloOp τ sig (Elt F) := StableHlo.reshape main_arg4 main_v0 (rfl : (.f32 : EltTy) = .f32) shapeCasts_S1x128_S128
abbrev opR : HloOp τ sig (Elt F) := StableHlo.reshape main_v1 main_v2 (rfl : (.f32 : EltTy) = .f32) shapeCasts_S16384_S16384x1

abbrev S9 : Finset (DevRef τ sig) := {a0', a1', a2', a3', a4', a5', w', o', r'}

/-- The contents at the launch, after the weights' reshape, after the call, at the end. -/
def V0 (d : Dev nD) : Valuation τ sig (Elt F) := fun b => m (d, b)
def V1 (d : Dev nD) : Valuation τ sig (Elt F) := (opW (F := F)).result (V0 m d)
def out (d : Dev nD) : Buf (Elt F) ((SparseCore.T d : Thread nD τ).loc main_v1) :=
  kernelOut d (V1 m d a0') (V1 m d a1') (V1 m d a2') (V1 m d a3') (V1 m d w') (V1 m d a5')
def V2 (d : Dev nD) : Valuation τ sig (Elt F) := Function.update (V1 m d) o' (out m d)
def V3 (d : Dev nD) : Valuation τ sig (Elt F) := (opR (F := F)).result (V2 m d)

theorem held_S9 (d : Dev nD) (W : Valuation τ sig (Elt F)) :
    (held (T d) S9 W : sProp (MM F))
      = iprop(((d, a0') ↦{fullShare} W a0') ∗ ((d, a1') ↦{fullShare} W a1') ∗ ((d, a2') ↦{fullShare} W a2') ∗ ((d, a3') ↦{fullShare} W a3')
          ∗ ((d, a4') ↦{fullShare} W a4') ∗ ((d, a5') ↦{fullShare} W a5') ∗ ((d, w') ↦{fullShare} W w') ∗ ((d, o') ↦{fullShare} W o')
          ∗ ((d, r') ↦{fullShare} W r')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp (MM F)) = held (T d) S9 (V0 m d) := by
  rw [held_S9]
  unfold unscopedBufs
  rw [show (Finset.univ.filter fun b : Ref sig .tc => ¬ b.isScoped) = {main_arg0, main_arg1, main_arg2, main_arg3, main_arg4, main_arg5, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-! ## What the handshakes carry -/

/-- The share of the inputs that a subcore reads. -/
def shareOf (L : grid0.Coords) : PosShare TreeShare :=
  pieceOf (pieceOf fullShare (grid0.bound 0) (by decide) (L 0)) (grid0.bound 1) (by decide) (L 1)

def goAt (d : Dev nD) (L : grid0.Coords) : sProp (MM F) :=
  iprop(inputs d L (shareOf L) (V1 m d a0') (V1 m d a1') (V1 m d a2') (V1 m d a3') (V1 m d w') (V1 m d a5') ∗ own d L (outOf L) fullShare (V1 m d o'))
def tdAt (d : Dev nD) (L : grid0.Coords) : sProp (MM F) :=
  iprop(inputs d L (shareOf L) (V1 m d a0') (V1 m d a1') (V1 m d a2') (V1 m d a3') (V1 m d w') (V1 m d a5') ∗ own d L (outOf L) fullShare (out m d))

instance goAt_storable (d : Dev nD) (L : grid0.Coords) : BI.Storable (upEmb : UEmb _ (MM F)) (goAt m d L) := by
  unfold goAt inputs own; infer_instance
instance tdAt_storable (d : Dev nD) (L : grid0.Coords) : BI.Storable (upEmb : UEmb _ (MM F)) (tdAt m d L) := by
  unfold tdAt inputs own; infer_instance

/-- A SparseCore's: its sixteen subcores'. -/
def stAt (d : Dev nD) (c : Fin (grid0.bound 0)) : sProp (MM F) := bigSep Finset.univ fun i : Fin (grid0.bound 1) => goAt m d (coordsV c i)
def dnAt (d : Dev nD) (c : Fin (grid0.bound 0)) : sProp (MM F) := bigSep Finset.univ fun i : Fin (grid0.bound 1) => tdAt m d (coordsV c i)

instance stAt_storable (d : Dev nD) (c : Fin (grid0.bound 0)) : BI.Storable (upEmb : UEmb _ (MM F)) (stAt m d c) := by
  unfold stAt; infer_instance
instance dnAt_storable (d : Dev nD) (c : Fin (grid0.bound 0)) : BI.Storable (upEmb : UEmb _ (MM F)) (dnAt m d c) := by
  unfold dnAt; infer_instance

attribute [local irreducible] goAt tdAt stAt dnAt

/-- Each SparseCore takes what its sixteen subcores take, and hands back what they hand back. -/
def P : (K (F := F)).Pay (nD := nD) (Val := Elt F) (Name := ℕ) (U := UU) where
  st := fun q d c => match q with | 0 => stAt m d c
  dn := fun q d c => match q with | 0 => dnAt m d c
  go := fun q d c i => match q with | 0 => goAt m d (coordsV c i)
  td := fun q d c i => match q with | 0 => tdAt m d (coordsV c i)
  x := fun _ _ => iprop(emp)

instance P_storable : (P (F := F) m).IsStorable where
  st q d c := match q with | 0 => stAt_storable m d c
  dn q d c := match q with | 0 => dnAt_storable m d c
  go q d c i := match q with | 0 => goAt_storable m d (coordsV c i)
  td q d c i := match q with | 0 => tdAt_storable m d (coordsV c i)

theorem vecSplit : (K (F := F)).VecSplit' (P m) 0 := by
  intro d c
  have h : stAt m d c ⊢ |={Set.univ}=> iprop((bigSep Finset.univ fun i : Fin (grid0.bound 1) => goAt m d (coordsV c i))
      ∗ ((bigSep Finset.univ fun i : Fin (grid0.bound 1) => tdAt m d (coordsV c i)) -∗ dnAt m d c)) := by
    unfold stAt dnAt
    iintro H; imodintro
    isplitl [H]; · iexact H
    iintro H; iexact H
  exact h

/-- The words of the lists name rows of the tables. -/
def InRange : Prop := ∀ d : Dev nD, (∀ y : S16384.Idx, BitVec.toNat (w := 32) (m (d, a0') y) < 100000) ∧ (∀ y : S16384.Idx, BitVec.toNat (w := 32) (m (d, a1') y) < 100000)

theorem V1_of_ne (d : Dev nD) (b : DevRef τ sig) (h : b ∉ ({w'} : Finset (DevRef τ sig))) : V1 m d b = m (d, b) :=
  (opW (F := F)).result_of_not_mem _ h

/-! ## A subcore's obligation -/

theorem defs₀_vector (c : Fin τ.nSC) (s : Fin τ.nSub) :
    defs₀ (F := F) (.scVector c s) 0 ()
      = SparseCore.onTile hcore0 hsub0 (fun c s => cc0__gmf_body (F := F) (coordsV c s) mUsers (Memref.isWhole_whole _) mItems (Memref.isWhole_whole _) mUTab (Memref.isWhole_whole _) mITab (Memref.isWhole_whole _)
            mW (Memref.isWhole_whole _) mB (Memref.isWhole_whole _) mOut (Memref.isWhole_whole _) sUI (Memref.isWhole_whole _) sII (Memref.isWhole_whole _)
            sU0 (Memref.isWhole_whole _) sU1 (Memref.isWhole_whole _) sI0 (Memref.isWhole_whole _) sI1 (Memref.isWhole_whole _) sW (Memref.isWhole_whole _) sB (Memref.isWhole_whole _) sQ (Memref.isWhole_whole _)
            sOut (Memref.isWhole_whole _) sPerm (Memref.isWhole_whole _) cc0_scratch11 cc0_scratch12 cc0_scratch13 cc0_scratch14 cc0_scratch15 cc0_scoped0) ⟨⟩ c s := rfl

theorem obl_post {thr : Thread nD τ} {A B C : sProp (MM F)} {O : CellTallies nD τ sig (HIx 1)} {W : Waits sig (HIx 1)} {q : Fin 1} :
    iprop(A ∗ B ∗ C ∗ owesN thr O W)
      ⊢ iprop(A ∗ B ∗ C ∗ ∃ W', ⌜∀ p ∈ W', p ∈ W ∨ p.2 = none ∨ p.2 = some q⌝ ∗ owes thr O W') := by
  unfold owesN
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_at (hF : (K (F := F)).Facts) (hm : InRange m) (d : Dev nD) (L : grid0.Coords) (O : CellTallies nD τ sig (HIx 1)) (W : Waits sig (HIx 1)) (hO : ∀ g, O g none = 0) :
    (iprop(levAts (K (F := F)).L (K (F := F)).lev ∗ emp ∗ goAt m d L ∗ scopedBufs (at_ d L) ∗ scopedSems0 (at_ d L) ∗ owes (at_ d L) O W) : sProp (MM F))
      ⊢ wp frame (wpE (defs₀ (F := F)) 𝒱₀ (at_ d L) none) Set.univ
          (cc0__gmf_body (F := F) L mUsers (Memref.isWhole_whole _) mItems (Memref.isWhole_whole _) mUTab (Memref.isWhole_whole _) mITab (Memref.isWhole_whole _)
            mW (Memref.isWhole_whole _) mB (Memref.isWhole_whole _) mOut (Memref.isWhole_whole _) sUI (Memref.isWhole_whole _) sII (Memref.isWhole_whole _)
            sU0 (Memref.isWhole_whole _) sU1 (Memref.isWhole_whole _) sI0 (Memref.isWhole_whole _) sI1 (Memref.isWhole_whole _) sW (Memref.isWhole_whole _) sB (Memref.isWhole_whole _) sQ (Memref.isWhole_whole _)
            sOut (Memref.isWhole_whole _) sPerm (Memref.isWhole_whole _) cc0_scratch11 cc0_scratch12 cc0_scratch13 cc0_scratch14 cc0_scratch15 cc0_scoped0)
          fun _ => iprop(tdAt m d L ∗ scopedBufs (at_ d L) ∗ scopedSems0 (at_ d L)
            ∗ ∃ W', ⌜∀ p ∈ W', p ∈ W ∨ p.2 = none ∨ p.2 = some (0 : Fin 1)⌝ ∗ owes (at_ d L) O W') := by
  have h0 : ∀ y, BitVec.toNat (V1 m d a0' y) < 100000 := fun y => by rw [V1_of_ne m d a0' (by decide)]; exact (hm d).1 y
  have h1 : ∀ y, BitVec.toNat (V1 m d a1' y) < 100000 := fun y => by rw [V1_of_ne m d a1' (by decide)]; exact (hm d).2 y
  unfold goAt tdAt
  exact (tile_body d _ _ _ _ _ _ L _ hF h0 h1 _ O W hO).trans (wp_mono frame _ _ fun _ => obl_post)

set_option maxRecDepth 16384 in
theorem tileObl (hF : (K (F := F)).Facts) (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_at m hF hm d (coordsV ⟨_, hci.1⟩ ⟨_, hci.2⟩) O W hO

/-! ## The arrays among the subcores -/

/-- Subcores and their coordinates. -/
theorem coordsV_inj {c c' : Fin (grid0.bound 0)} {i i' : Fin (grid0.bound 1)} (h : coordsV c i = coordsV c' i') : c = c' ∧ i = i' :=
  ⟨congrFun h 0, congrFun h 1⟩

/-- A whole array read by all the subcores. -/
theorem shares (ℓ : Loc nD τ sig) (f : Buf (Elt F) ℓ) :
    (ℓ ↦{fullShare} f : sProp (MM F)) = bigSep Finset.univ fun c : Fin (grid0.bound 0) => bigSep Finset.univ fun i : Fin (grid0.bound 1) => ℓ ↦{shareOf (coordsV c i)} f := by
  rw [pointsTo_piecesOf Finset.univ f (by decide : 0 < grid0.bound 0) fullShare]
  exact bigSep_congr fun c _ => pointsTo_piecesOf Finset.univ f (by decide : 0 < grid0.bound 1) _

/-- The words of the result that one subcore writes. -/
abbrev wordsOf (p : Fin (grid0.bound 0) × Fin (grid0.bound 1)) : Finset S16384.Idx := (outOf (coordsV p.1 p.2)).view.set

/-- The result's words, each with its subcore. -/
theorem words (d : Dev nD) (f : Buf (Elt F) ((d, o') : Loc nD τ sig)) :
    (((d, o') : Loc nD τ sig) ↦{fullShare} f : sProp (MM F))
      = bigSep Finset.univ fun c : Fin (grid0.bound 0) => bigSep Finset.univ fun i : Fin (grid0.bound 1) => own d (coordsV c i) (outOf (coordsV c i)) fullShare f := by
  have hd : ∀ p ∈ (Finset.univ : Finset (Fin (grid0.bound 0) × Fin (grid0.bound 1))), ∀ p' ∈ (Finset.univ : Finset (Fin (grid0.bound 0) × Fin (grid0.bound 1))), p ≠ p' →
      Disjoint (wordsOf p) (wordsOf p') := by
    intro p _ p' _ h
    refine Finset.disjoint_left.mpr fun n hn hn' => h ?_
    obtain ⟨y, -, rfl⟩ := Finset.mem_map.mp hn
    obtain ⟨y', -, e⟩ := Finset.mem_map.mp hn'
    have e' := (tileOf_emb _ y').symm.trans ((congrArg tileOf e).trans (tileOf_emb _ y))
    exact Prod.ext (coordsV_inj e').1.symm (coordsV_inj e').2.symm
  have hc : (Finset.univ : Finset (Fin (grid0.bound 0) × Fin (grid0.bound 1))).biUnion wordsOf = Finset.univ := by
    refine Finset.eq_univ_iff_forall.mpr fun n => Finset.mem_biUnion.mpr ⟨(tileOf n 0, tileOf n 1), Finset.mem_univ _, Finset.mem_map.mpr ⟨placeOf n, Finset.mem_univ _, ?_⟩⟩
    have hn : (n 0).val < 16384 := (n 0).isLt
    funext a
    match a with
    | 0 =>
      refine Fin.ext ((outOf_emb _ _).trans ?_)
      show 1024 * ((n 0).val / 1024) + 512 * ((n 0).val / 512 % 2) + (n 0).val % 512 = (n 0).val
      omega
  have h := pointsTo_biUnion (ℓ := ((d, o') : Loc nD τ sig)) (q := fullShare) (f := f) (Ix := HIx 1) (Name := ℕ) (U := UU) (Lvl := ℕ)
    (T := Fin (grid0.bound 0) × Fin (grid0.bound 1)) Finset.univ wordsOf hd
  refine Eq.trans (congrArg (fun I => (((d, o') : Loc nD τ sig) ↦[I]{fullShare} f : sProp (MM F))) hc.symm) (h.trans ?_)
  exact bigSep_univ_prod (fun p : Fin (grid0.bound 0) × Fin (grid0.bound 1) => own d (coordsV p.1 p.2) (outOf (coordsV p.1 p.2)) fullShare f)

/-- The inputs and the result's words, among the subcores. -/
theorem arrays (d : Dev nD) (f0 : Buf (Elt F) ((d, a0') : Loc nD τ sig)) (f1 : Buf (Elt F) ((d, a1') : Loc nD τ sig)) (TU : Buf (Elt F) ((d, a2') : Loc nD τ sig))
    (TI : Buf (Elt F) ((d, a3') : Loc nD τ sig)) (fw : Buf (Elt F) ((d, w') : Loc nD τ sig)) (fb : Buf (Elt F) ((d, a5') : Loc nD τ sig)) (g : Buf (Elt F) ((d, o') : Loc nD τ sig)) :
    (iprop(((((d, a0') : Loc nD τ sig) ↦{fullShare} f0) ∗ (((d, a1') : Loc nD τ sig) ↦{fullShare} f1) ∗ (((d, a2') : Loc nD τ sig) ↦{fullShare} TU)
        ∗ (((d, a3') : Loc nD τ sig) ↦{fullShare} TI) ∗ (((d, w') : Loc nD τ sig) ↦{fullShare} fw) ∗ (((d, a5') : Loc nD τ sig) ↦{fullShare} fb))
        ∗ (((d, o') : Loc nD τ sig) ↦{fullShare} g)) : sProp (MM F))
      = bigSep Finset.univ fun c : Fin (grid0.bound 0) => bigSep Finset.univ fun i : Fin (grid0.bound 1) =>
          iprop(inputs d (coordsV c i) (shareOf (coordsV c i)) f0 f1 TU TI fw fb ∗ own d (coordsV c i) (outOf (coordsV c i)) fullShare g) := by
  unfold inputs
  simp only [bigSep_sep']
  rw [shares _ f0, shares _ f1, shares _ TU, shares _ TI, shares _ fw, shares _ fb, words d g]

/-! ## @main on the TensorCore -/

theorem st0_eq (d : Dev nD) : (bigSep Finset.univ fun c : Fin ((K (F := F)).nCore 0) => (P m).st 0 d c)
    = (bigSep Finset.univ fun c : Fin (grid0.bound 0) => bigSep Finset.univ fun i : Fin (grid0.bound 1) => goAt m d (coordsV c i) : sProp (MM F)) := by
  show (bigSep Finset.univ fun c : Fin (grid0.bound 0) => stAt m d c) = _
  unfold stAt
  rfl
theorem dn0_eq (d : Dev nD) : (bigSep Finset.univ fun c : Fin ((K (F := F)).nCore 0) => (P m).dn 0 d c)
    = (bigSep Finset.univ fun c : Fin (grid0.bound 0) => bigSep Finset.univ fun i : Fin (grid0.bound 1) => tdAt m d (coordsV c i) : sProp (MM F)) := by
  show (bigSep Finset.univ fun c : Fin (grid0.bound 0) => dnAt m d c) = _
  unfold dnAt
  rfl

theorem V2_of_ne (d : Dev nD) (b : DevRef τ sig) (h : b ≠ o') : V2 m d b = V1 m d b := Function.update_of_ne h _ _
theorem V3_of_ne (d : Dev nD) (b : DevRef τ sig) (h : b ∉ ({r'} : Finset (DevRef τ sig))) : V3 m d b = V2 m d b := (opR (F := F)).result_of_not_mem _ h
theorem V3_arg (d : Dev nD) (b : DevRef τ sig) (hr : b ∉ ({r'} : Finset (DevRef τ sig))) (ho : b ≠ o') (hw : b ∉ ({w'} : Finset (DevRef τ sig))) : V3 m d b = m (d, b) :=
  (V3_of_ne m d b hr).trans ((V2_of_ne m d b ho).trans (V1_of_ne m d b hw))

theorem hW : (opW (F := F)).bufs ⊆ S9 := show ({a4', w'} : Finset (DevRef τ sig)) ⊆ S9 by decide
theorem hR : (opR (F := F)).bufs ⊆ S9 := show ({o', r'} : Finset (DevRef τ sig)) ⊆ S9 by decide

/-- What is left at the end: the arguments as they were, the result's reshape. -/
abbrev FIN (d : Dev nD) : sProp (MM F) :=
  held (T d) S9 (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opW) (S := S9) hW (V := V0 m d)) $$ [Hb Hheld]
  · isplitl [Hb]; · iexact Hb
    iexact Hheld
  iintro ⟨Hb, Hheld⟩
  rw [wp_ret]; imodintro
  ihave Hh := (Entails.of_eq (show (held (T d) S9 ((opW (F := F)).result (V0 m d)) : sProp (MM F)) = _ from held_S9 (F := F) d (V1 m d))) $$ Hheld
  icases Hh with ⟨H0, H1, H2, H3, H4, H5, Hw, Ho, Hr⟩
  ihave Hgo := (Entails.of_eq (arrays d (V1 m d a0') (V1 m d a1') (V1 m d a2') (V1 m d a3') (V1 m d w') (V1 m d a5') (V1 m d o'))) $$ [H0 H1 H2 H3 H5 Hw Ho]
  · iframe
  iapply ((K (F := F)).wp_run (D (F := F)) 𝒱 (EH := EH) (P := P m) κ d 0) $$ [Hst Hgo Hb Hts H4 Hr]
  isplitr; · iexact Hctx
  isplitl [Hst]; · iexact Hst
  isplitl [Hgo]
  · rw [st0_eq]
    unfold goAt
    iexact Hgo
  iintro ⟨Hst, Hdn⟩
  ihave Hdn := (Entails.of_eq (dn0_eq m d)) $$ Hdn
  unfold tdAt
  ihave Hdn := (Entails.of_eq (arrays d (V1 m d a0') (V1 m d a1') (V1 m d a2') (V1 m d a3') (V1 m d w') (V1 m d a5') (out m d)).symm) $$ Hdn
  icases Hdn with ⟨⟨H0, H1, H2, H3, Hw, H5⟩, Ho⟩
  iapply (wp_hlo_within 𝒱 (SparseCore.T d) none Set.univ (op := opR) (S := S9) hR (V := V2 m d)) $$ [Hb H0 H1 H2 H3 H4 H5 Hw Ho Hr]
  · isplitl [Hb]; · iexact Hb
    rw [held_S9, V2_of_ne m d a0' (by decide), V2_of_ne m d a1' (by decide), V2_of_ne m d a2' (by decide), V2_of_ne m d a3' (by decide), V2_of_ne m d a4' (by decide),
      V2_of_ne m d a5' (by decide), V2_of_ne m d w' (by decide), V2_of_ne m d r' (by decide), show V2 m d o' = out m d from Function.update_self _ _ _]
    iframe
  iintro ⟨Hb, Hheld⟩
  rw [wp_ret]; imodintro; imodintro
  isplitl [Hst]; · iexact Hst
  isplitl [Hheld]; · iexact Hheld
  isplitl [Hb] <;> iassumption

/-! ## The run -/

def fq (d : Dev nD) (s' : Phys nD τ sig (Elt F)) : Prop := ∀ b ∈ S9, s'.mem.mem (d, b) = V3 m d b

/-- The final memory holds what is left at the end. -/
theorem hfin_of (d : Dev nD) (s' : Phys nD τ sig (Elt F)) (b : DevRef τ sig) (hb : b ∈ S9) : iprop(FIN m d ∗ SI s') ⊢ (⌜s'.mem.mem (d, b) = V3 m d b⌝ : sProp (MM F)) := by
  unfold FIN held
  rw [SparseCore.bigSep_erase' hb]
  iintro ⟨⟨Hb, -⟩, HSI⟩
  ihave H := (SI_pointsTo_agree (st := s') (ℓ := (d, b)) (I := Finset.univ) (q := fullShare) (f := V3 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp (MM F)) := by
  have one : ∀ b, iprop(FIN m d ∗ SI s') ⊢ (⌜b ∈ S9 → s'.mem.mem (d, b) = V3 m d b⌝ : sProp (MM F)) := fun b => by
    by_cases hb : b ∈ S9
    · exact (hfin_of m d s' b hb).trans (Laws.pure_mono fun h _ => h)
    · exact BIClass.pure_intro fun h => absurd h hb
  exact (Laws.forall_intro one).trans Laws.pure_forall.2

/-- The launch's ghost state. -/
def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have e : (bigSep Finset.univ fun thr : Thread nD τ => bigSep Finset.univ fun q : Fin 1 => (P (F := F) m).x q thr) = bigSep Finset.univ fun _ => iprop(emp) :=
    bigSep_congr fun _ _ => bigSep_univ_of_subsingleton (0 : Fin 1)
  have z : ∀ {I : Type} (s : Finset I), (bigSep s fun _ => iprop(emp)) = (iprop(emp) : sProp (MM F)) := fun s => bigSep_emp_const s
  rw [e, z, z]
  isplitr <;> iempintro

/-- What the run ends in: the arguments unchanged, the result computed, all semaphores at zero. -/
def QC : PUnit × MemSt nD τ sig (Elt F) → Prop := fun r => (∀ d : Dev nD, ∀ b ∈ S9, r.2.mem (d, b) = V3 m d b) ∧ r.2.sem = fun _ => 0

theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Gmf
-- ==== Proof.Frames.lean ====
module
public import proofs.«01_k».proof.Proof.Launch
public import proofs.«01_k».proof.Proof.Gen.Kernel
public import proofs.«01_k».proof.Proof.Gen.Pre_in_tables
public import proofs.«01_k».proof.Proof.Gen.ReferenceIdeal.Run
public import proofs.«01_k».proof.Defs
public import Idealize.ShloMosaic.Lib.ReduceAll
public import Idealize.ShloMosaic.Lib.Affine

/-! The frames: the kernel's run at the rounding floats and at the ideal ones, and the reference's. -/

@[expose] public section
noncomputable section

namespace Cert.Gmf

open Idealize.ShloMosaic Idealize.ShloMosaic.TcCoe
open Idealize.SL.Sem

/-! ## The precondition -/

theorem word_lt {w : BitVec 32} (h0 : IntOp.cmpi .sge w 0#32 = 1#1) (h1 : IntOp.cmpi .slt w 100000#32 = 1#1) :
    w.toNat < 100000 := by
  have h0 := IntOp.cmpi_sge.1 h0
  have h1 := IntOp.cmpi_slt.1 h1
  rw [BitVec.toInt_eq_toNat_cond] at h0 h1
  simp only [BitVec.toInt_eq_toNat_cond, BitVec.toNat_ofNat, Nat.reducePow, Nat.reduceMod] at h0 h1
  omega

instance : Subsingleton Cert.Pre_in_tables.S_.Idx := ⟨fun a b => funext fun k => k.elim0⟩

/-- What the precondition says of the two lists: every word is a row of the tables. -/
theorem words_lt {F : FTy → Type} [FloatOps F] {x y : IVec Cert.Pre_in_tables.S16384 32}
    {tu ti : FVec F Cert.Pre_in_tables.S100000x128 .f32} {w : FVec F Cert.Pre_in_tables.S1x128 .f32}
    {b : FVec F Cert.Pre_in_tables.S1 .f32}
    (h : Cert.Pre_in_tables.fn (F := F) x y tu ti w b = fun _ => 1#1) :
    (∀ i, (x i).toNat < 100000) ∧ ∀ i, (y i).toNat < 100000 := by
  have e := congrFun h (fun k => k.elim0)
  simp only [Cert.Pre_in_tables.fn] at e
  obtain ⟨e, h4⟩ := IntOp.andi_eq_one.1 e
  obtain ⟨e, h3⟩ := IntOp.andi_eq_one.1 e
  obtain ⟨h1, h2⟩ := IntOp.andi_eq_one.1 e
  exact ⟨fun i => word_lt (Host.reduce_andi_all _ _ _ _ _ h1 i) (Host.reduce_andi_all _ _ _ _ _ h2 i),
    fun i => word_lt (Host.reduce_andi_all _ _ _ _ _ h3 i) (Host.reduce_andi_all _ _ _ _ _ h4 i)⟩

theorem inRange_ideal {m : (ℓ : Loc Cert.KernelIdeal.nD Cert.KernelIdeal.τ Cert.KernelIdeal.sig) → Buf (Elt Ideal) ℓ}
    (h : Cert.Pre_KernelIdeal m) : InRange (F := Ideal) m := fun d => words_lt (h d)

theorem inRange_bits {m : (ℓ : Loc Cert.Kernel.nD Cert.Kernel.τ Cert.Kernel.sig) → Buf (Elt Bits) ℓ}
    (h : Cert.Pre_Kernel m) : InRange (F := Bits) m := fun d => words_lt (h d)

/-! ## The runs -/

section
variable {F : FTy → Type} [FloatOps F]

/-- A run's end leaves the six arguments as they were. -/
theorem args_kept {m : (ℓ : Loc Cert.KernelIdeal.nD Cert.KernelIdeal.τ Cert.KernelIdeal.sig) → Buf (Elt F) ℓ}
    {r : _} (h : QC m r) (c : Dev Cert.KernelIdeal.nD) :
    r.2.mem (c, a0') = m (c, a0') ∧ r.2.mem (c, a1') = m (c, a1') ∧ r.2.mem (c, a2') = m (c, a2')
      ∧ r.2.mem (c, a3') = m (c, a3') ∧ r.2.mem (c, a4') = m (c, a4') ∧ r.2.mem (c, a5') = m (c, a5') :=
  ⟨(h.1 c a0' (by decide)).trans (V3_arg m c a0' (by decide) (by decide) (by decide)),
    (h.1 c a1' (by decide)).trans (V3_arg m c a1' (by decide) (by decide) (by decide)),
    (h.1 c a2' (by decide)).trans (V3_arg m c a2' (by decide) (by decide) (by decide)),
    (h.1 c a3' (by decide)).trans (V3_arg m c a3' (by decide) (by decide) (by decide)),
    (h.1 c a4' (by decide)).trans (V3_arg m c a4' (by decide) (by decide) (by decide)),
    (h.1 c a5' (by decide)).trans (V3_arg m c a5' (by decide) (by decide) (by decide))⟩
end

theorem frame_kernelIdeal : Cert.quiescent_KernelIdeal := fun m ρ hp =>
  (θ_run Cert.KernelIdeal.defs _ _).mono (fun _ h => ⟨fun c => args_kept h c, h.2⟩)
    (run_main (F := Ideal) m ρ (inRange_ideal hp))

theorem frame_kernel : Cert.quiescent_Kernel := fun m ρ hp =>
  (θ_run Cert.KernelIdeal.defs _ _).mono (fun _ h => ⟨fun c => args_kept h c, h.2⟩)
    (run_main (F := Bits) m ρ (inRange_bits hp))

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Gmf
end
-- ==== Proof.Net.lean ====
module
public import proofs.«01_k».proof.Proof.Tile
public import Mathlib.Algebra.BigOperators.Fin
public import Mathlib.Tactic.Abel
public import Mathlib.Tactic.FinCases

/-! The lane network adds: over the extended reals each lane it leaves is the sum of one row's sixteen lanes. -/

@[expose] public section
noncomputable section

namespace Cert.Gmf

open Cert.KernelIdeal Cert.KernelIdeal.Gen
open Idealize.ShloMosaic

/-! ## The network over any commutative addition -/

section Plain
variable {M : Type} [AddCommMonoid M]

/-- Two rows folded by `σ`, lane by lane from the one or the other. -/
def foldBy (c : Fin 16 → Bool) (σ : Fin 16 → Fin 16) (a b : Fin 16 → M) (k : Fin 16) : M :=
  if c k then a k + a (σ k) else b k + b (σ k)

/-- The lanes each permutation reads. -/
def by8 (k : Fin 16) : Fin 16 := k + 8
def by4 : Fin 16 → Fin 16 := ![4, 5, 6, 7, 0, 1, 2, 3, 12, 13, 14, 15, 8, 9, 10, 11]
def by2 : Fin 16 → Fin 16 := ![2, 3, 0, 1, 6, 7, 4, 5, 10, 11, 8, 9, 14, 15, 12, 13]
def by1 : Fin 16 → Fin 16 := ![1, 0, 3, 2, 5, 4, 7, 6, 9, 8, 11, 10, 13, 12, 15, 14]
def turned : Fin 16 → Fin 16 := ![0, 8, 4, 12, 2, 10, 6, 14, 1, 9, 5, 13, 3, 11, 7, 15]

/-- The lanes each mask takes. -/
def low8 (k : Fin 16) : Bool := k.val < 8
def low4 (k : Fin 16) : Bool := k.val % 8 < 4
def low2 (k : Fin 16) : Bool := k.val % 4 < 2
def low1 (k : Fin 16) : Bool := k.val % 2 < 1

/-- Four rows folded to four lanes each. -/
def quadBy (a b c e : Fin 16 → M) (k : Fin 16) : M :=
  foldBy low4 by4 (foldBy low8 by8 a b) (foldBy low8 by8 c e) k
    + foldBy low4 by4 (foldBy low8 by8 a b) (foldBy low8 by8 c e) (by2 k)

/-- Four of them folded to one lane a row. -/
def mergeBy (a b c e : Fin 16 → M) (l : Fin 16) : M :=
  foldBy low1 by1 (fun k => if low2 k then a k else b k) (fun k => if low2 k then c k else e k) (turned l)

/-- Row `4 * j + i` of sixteen. -/
def row44 (j i : Fin 4) : Fin 16 := ⟨4 * j.val + i.val, by omega⟩

/-- Lane `l` of the whole network is the sum of row `l`. -/
theorem mergeBy_quadBy (x : Fin 16 → Fin 16 → M) (l : Fin 16) :
    mergeBy (quadBy (x (row44 0 0)) (x (row44 0 1)) (x (row44 0 2)) (x (row44 0 3)))
      (quadBy (x (row44 1 0)) (x (row44 1 1)) (x (row44 1 2)) (x (row44 1 3)))
      (quadBy (x (row44 2 0)) (x (row44 2 1)) (x (row44 2 2)) (x (row44 2 3)))
      (quadBy (x (row44 3 0)) (x (row44 3 1)) (x (row44 3 2)) (x (row44 3 3))) l = ∑ k, x l k := by
  fin_cases l <;>
  · simp [mergeBy, quadBy, foldBy, by8, by4, by2, by1, turned, low8, low4, low2, low1, row44, Fin.sum_univ_succ]
    abel

end Plain

/-! ## The kernel's network -/

/-- The network the kernel builds. -/
def theNet : Net := (pro (F := Ideal) 0 (fun _ => 0)).net

/-- A vector's lanes. -/
def lanesOf {F : FTy → Type} (v : Lane F) (k : Fin 16) : F .f32 := v (lane k.val k.isLt)

theorem permute_lane {F : FTy → Type} [FloatOps F] (p : Perm) (h : p.Ok) (σ : Fin 16 → Fin 16)
    (e : ∀ k : Fin 16, (p (lane k.val k.isLt)).toNat = (σ k).val) (v : Lane F) (k : Fin 16) :
    lanesOf (permute p h v) k = lanesOf v (σ k) := by
  show v _ = v _
  refine congrArg v (funext fun a => Fin.ext ?_)
  match a with
  | 0 => exact e k

theorem fold2_lane (m : IVec S16 1) (p : Perm) (h : p.Ok) (c : Fin 16 → Bool) (σ : Fin 16 → Fin 16)
    (hc : ∀ k : Fin 16, m (lane k.val k.isLt) = BitVec.ofBool (c k))
    (e : ∀ k : Fin 16, (p (lane k.val k.isLt)).toNat = (σ k).val) (a b : Lane Ideal) (k : Fin 16) :
    lanesOf (fold2 m p h a b) k = foldBy c σ (lanesOf a) (lanesOf b) k := by
  have ha := permute_lane p h σ e a k
  have hb := permute_lane p h σ e b k
  unfold lanesOf at ha hb
  simp only [lanesOf, fold2, select, Scalar.select, addf, hc, foldBy, ha, hb, Ideal.addf_def]
  cases c k <;> rfl

theorem r8_eq : ∀ k : Fin 16, (theNet.r8 (lane k.val k.isLt)).toNat = (by8 k).val := by decide +kernel
theorem r4_eq : ∀ k : Fin 16, (theNet.r4 (lane k.val k.isLt)).toNat = (by4 k).val := by decide +kernel
theorem r2_eq : ∀ k : Fin 16, (theNet.r2 (lane k.val k.isLt)).toNat = (by2 k).val := by decide +kernel
theorem r1_eq : ∀ k : Fin 16, (theNet.r1 (lane k.val k.isLt)).toNat = (by1 k).val := by decide +kernel
theorem br_eq : ∀ k : Fin 16, (theNet.br (lane k.val k.isLt)).toNat = (turned k).val := by decide +kernel
theorem m8_eq : ∀ k : Fin 16, theNet.m8 (lane k.val k.isLt) = BitVec.ofBool (low8 k) := by decide +kernel
theorem m4_eq : ∀ k : Fin 16, theNet.m4 (lane k.val k.isLt) = BitVec.ofBool (low4 k) := by decide +kernel
theorem m2_eq : ∀ k : Fin 16, theNet.m2 (lane k.val k.isLt) = BitVec.ofBool (low2 k) := by decide +kernel
theorem m1_eq : ∀ k : Fin 16, theNet.m1 (lane k.val k.isLt) = BitVec.ofBool (low1 k) := by decide +kernel

theorem quad_lane (a b c e : Lane Ideal) :
    lanesOf (quad theNet a b c e) = quadBy (lanesOf a) (lanesOf b) (lanesOf c) (lanesOf e) := by
  have h8 (a b : Lane Ideal) : lanesOf (fold2 theNet.m8 theNet.r8 theNet.h8 a b) = foldBy low8 by8 (lanesOf a) (lanesOf b) :=
    funext (fold2_lane _ _ _ _ _ m8_eq r8_eq a b)
  have h4 (a b : Lane Ideal) : lanesOf (fold2 theNet.m4 theNet.r4 theNet.h4 a b) = foldBy low4 by4 (lanesOf a) (lanesOf b) :=
    funext (fold2_lane _ _ _ _ _ m4_eq r4_eq a b)
  funext k
  unfold quad quadBy
  rw [← h8, ← h8, ← h4]
  exact congrArg (_ + ·) (permute_lane _ _ _ r2_eq _ k)

theorem select2_lane (a b : Lane Ideal) (k : Fin 16) :
    lanesOf (select theNet.m2 a b) k = if low2 k then lanesOf a k else lanesOf b k := by
  simp only [lanesOf, select, Scalar.select, m2_eq]
  cases low2 k <;> rfl

theorem merge_lane (a b c e : Lane Ideal) (l : Fin 16) :
    lanesOf (merge theNet a b c e) l = mergeBy (lanesOf a) (lanesOf b) (lanesOf c) (lanesOf e) l := by
  unfold merge mergeBy
  rw [permute_lane _ _ _ br_eq, fold2_lane _ _ _ _ _ m1_eq r1_eq]
  simp only [foldBy, select2_lane]

end Cert.Gmf
end
-- ==== Proof.ChunkValue.lean ====
module
public import proofs.«01_k».proof.Proof.Net
public import Idealize.ShloMosaic.PureOps.Ideal.Laws

/-! What the kernel adds up for one row of a chunk, over the extended reals: the bias and the row's 128 products. -/

@[expose] public section
noncomputable section

namespace Cert.Gmf

open Cert.KernelIdeal Cert.KernelIdeal.Gen
open Idealize.ShloMosaic

/-- Weight `c`. -/
def weightAt (c : Fin 128) : S128.Idx := fun a => match a with | 0 => c

/-- A row's product at column `c`. -/
def prodAt (w : S128.Idx → EReal) (u i : S128x128.Idx → EReal) (r c : Fin 128) : EReal :=
  u (cell r c) * i (cell r c) * w (weightAt c)

theorem biasLane_lane (b : EReal) (k : Fin 16) : lanesOf (biasLane (F := Ideal) b) k = if k = 0 then b else 0 := by
  have hz : (Scalar.ofBits .f32 0x00000000#32 : Ideal .f32) = 0 := Ideal.ofBits_zero_f32
  show (if k.val = 0 then b else _) = _
  rw [hz]
  exact if_congr (by rw [Fin.ext_iff]; rfl) rfl rfl

/-- A row's lane: the bias in lane 0, and the eight products of its column in each piece. -/
theorem rowSum_lane (b : EReal) (w : S128.Idx → EReal) (u i : S128x128.Idx → EReal) (r : Fin 128) (k : Fin 16) :
    lanesOf (rowSum (F := Ideal) (biasLane (F := Ideal) b) (weights (F := Ideal) w) (piece16 (F := Ideal) u r) (piece16 (F := Ideal) i r)) k
      = (if k = 0 then b else 0) + ∑ j : Fin 8, prodAt w u i r (col j k) := by
  rw [← biasLane_lane, Fin.sum_univ_eight]
  simp only [← add_assoc]
  rfl

/-- The sixteen lanes of a row add up to the bias and its 128 products. -/
theorem sum_lanes (b : EReal) (p : Fin 128 → EReal) :
    ∑ k : Fin 16, ((if k = 0 then b else 0) + ∑ j : Fin 8, p (col j k)) = b + ∑ c, p c := by
  rw [Finset.sum_add_distrib]
  congr 1
  · simp
  · rw [Finset.sum_comm, ← Fintype.sum_prod_type' (fun j k => p (col j k))]
    refine Fintype.sum_equiv (finProdFinEquiv (m := 8) (n := 16)) _ _ fun x => congrArg p (Fin.ext ?_)
    show 16 * x.1.val + x.2.val = x.2.val + 16 * x.1.val
    omega

section
variable (b : EReal) (w : S128.Idx → EReal) (u i : S128x128.Idx → EReal)

/-- The lanes of row `r`'s partial sums. -/
def rowLanes (r : Fin 128) : Fin 16 → EReal :=
  lanesOf (rowSum (F := Ideal) (biasLane (F := Ideal) b) (weights (F := Ideal) w) (piece16 (F := Ideal) u r) (piece16 (F := Ideal) i r))

/-- Row `n` of the sixteen rows from `16 * g` on. -/
def row16 (g : Fin 8) (n : Fin 16) : Fin 128 := ⟨16 * g.val + n.val, by omega⟩

omit b w u i in
/-- The folded sums' word `16 * q + k` is lane `k` of four rows' folded. -/
theorem words16_quadAt {F : FTy → Type} [FloatOps F] (N : Net) (b : Lane F) (w : Fin 8 → Lane F) (u i : S128x128.Idx → F .f32) (q : Fin 32)
    (n : ℕ) (h : n + 16 ≤ 512) (e : n = 16 * q.val) : lanesOf (words16 (folded N b w u i) n h) = lanesOf (quadAt N b w u i q) := by
  funext k
  have hk := k.isLt
  show quadAt N b w u i ⟨(n + k.val) / 16, _⟩ (lane ((n + k.val) % 16) _) = quadAt N b w u i q (lane k.val k.isLt)
  have e1 : (⟨(n + k.val) / 16, by omega⟩ : Fin 32) = q := Fin.ext (by show (n + k.val) / 16 = _; omega)
  have e2 : lane ((n + k.val) % 16) (Nat.mod_lt _ (by decide)) = lane k.val k.isLt := by
    unfold lane; funext a; match a with | 0 => exact Fin.ext (by show (n + k.val) % 16 = k.val; omega)
  rw [e1, e2]

/-- The folded sums from word `64 * g + 16 * j` on are four rows' folded. -/
theorem words16_folded (g : Fin 8) (j : Fin 4) (n : ℕ) (h : n + 16 ≤ 512) (e : n = 64 * g.val + 16 * j.val) :
    lanesOf (words16 (F := Ideal) (folded theNet (biasLane (F := Ideal) b) (weights (F := Ideal) w) u i) n h)
      = quadBy (rowLanes b w u i (row16 g (row44 j 0))) (rowLanes b w u i (row16 g (row44 j 1)))
          (rowLanes b w u i (row16 g (row44 j 2))) (rowLanes b w u i (row16 g (row44 j 3))) := by
  have hr (c : Fin 4) : rowOf4 ⟨4 * g.val + j.val, by omega⟩ c = row16 g (row44 j c) :=
    Fin.ext (by show 4 * (4 * g.val + j.val) + c.val = 16 * g.val + (4 * j.val + c.val); omega)
  rw [words16_quadAt (F := Ideal) theNet _ _ u i ⟨4 * g.val + j.val, by omega⟩ n h (by show n = 16 * (4 * g.val + j.val); omega)]
  unfold rowLanes quadAt
  rw [quad_lane, hr, hr, hr, hr]

/-- The value of a chunk's row: the bias and the row's products. -/
theorem chunkVal_eq (n : Fin 128) :
    chunkVal theNet (folded theNet (biasLane (F := Ideal) b) (weights (F := Ideal) w) u i) n = b + ∑ c, prodAt w u i n c := by
  have hn := n.isLt
  have hg : n.val / 16 < 8 := by omega
  have hl : n.val % 16 < 16 := Nat.mod_lt _ (by decide)
  have hrow : row16 ⟨n.val / 16, hg⟩ ⟨n.val % 16, hl⟩ = n := Fin.ext (by show 16 * (n.val / 16) + n.val % 16 = n.val; omega)
  refine (merge_lane _ _ _ _ ⟨n.val % 16, hl⟩).trans ?_
  have e0 := words16_folded b w u i ⟨n.val / 16, hg⟩ 0 (64 * (n.val / 16)) (by omega) rfl
  have e1 := words16_folded b w u i ⟨n.val / 16, hg⟩ 1 (64 * (n.val / 16) + 16) (by omega) rfl
  have e2 := words16_folded b w u i ⟨n.val / 16, hg⟩ 2 (64 * (n.val / 16) + 32) (by omega) rfl
  have e3 := words16_folded b w u i ⟨n.val / 16, hg⟩ 3 (64 * (n.val / 16) + 48) (by omega) rfl
  rw [e0, e1, e2, e3]
  refine (mergeBy_quadBy (fun r => rowLanes b w u i (row16 ⟨n.val / 16, hg⟩ r)) ⟨n.val % 16, hl⟩).trans ?_
  show ∑ k, rowLanes b w u i (row16 _ _) k = _
  rw [hrow]
  exact (Finset.sum_congr rfl fun k _ => rowSum_lane b w u i n k).trans (sum_lanes b _)

end

end Cert.Gmf
end
-- ==== Proof.KernelValue.lean ====
module
public import proofs.«01_k».proof.Proof.ChunkValue
public import proofs.«01_k».proof.Proof.Launch
public import Idealize.ShloMosaic.Lib.ValueLayout

/-! The kernel's result over the extended reals, from the program's arguments. -/

@[expose] public section
noncomputable section

namespace Cert.Gmf

open Cert.KernelIdeal Cert.KernelIdeal.Gen
open Idealize.ShloMosaic

/-- The score of a pair: the bias, and the products of the two rows and the weights. -/
def score (x y : BitVec 32) (TU TI : S100000x128.Idx → EReal) (w : Fin 128 → EReal) (b : EReal) : EReal :=
  b + ∑ c : Fin 128, TU (rowOfWord x c) * TI (rowOfWord y c) * w c

section
variable (d : Dev nD) (L : grid0.Coords)
variable (f0 : Buf (Elt Ideal) (mUsers.view.loc (at_ d L))) (f1 : Buf (Elt Ideal) (mItems.view.loc (at_ d L)))
variable (TU : Buf (Elt Ideal) (mUTab.view.loc (at_ d L))) (TI : Buf (Elt Ideal) (mITab.view.loc (at_ d L)))
variable (fw : Buf (Elt Ideal) (mW.view.loc (at_ d L))) (fb : Buf (Elt Ideal) (mB.view.loc (at_ d L)))

/-- A subcore's word `y`, from what it reads. -/
theorem tileResult_apply (y : S512.Idx) :
    tileResult (F := Ideal) d L f0 f1 TU TI fw fb y
      = score ((listOf mUsers L).view.read (Elt Ideal) f0 y) ((listOf mItems L).view.read (Elt Ideal) f1 y)
          (mUTab.view.read (Elt Ideal) TU) (mITab.view.read (Elt Ideal) TI) (fun c => mW.view.read (Elt Ideal) fw (weightAt c))
          (mB.view.read (Elt Ideal) fb only1) := by
  have hy : (y 0).val < 512 := (y 0).isLt
  have hw : wordAt (128 * ((y 0).val / 128) + (y 0).val % 128) = y := by
    unfold wordAt spot
    funext a
    match a with
    | 0 => exact Fin.ext (by show (128 * ((y 0).val / 128) + (y 0).val % 128) % 512 = (y 0).val; omega)
  refine (chunkVal_eq (mB.view.read (Elt Ideal) fb only1) (mW.view.read (Elt Ideal) fw) _ _ _).trans ?_
  unfold score prodAt fetched
  refine congrArg (_ + ·) (Finset.sum_congr rfl fun c _ => ?_)
  show mUTab.view.read (Elt Ideal) TU (rowOfWord ((listOf mUsers L).view.read (Elt Ideal) f0 (wordAt (128 * ((y 0).val / 128) + (y 0).val % 128))) c)
    * mITab.view.read (Elt Ideal) TI (rowOfWord ((listOf mItems L).view.read (Elt Ideal) f1 (wordAt (128 * ((y 0).val / 128) + (y 0).val % 128))) c) * _ = _
  rw [hw]

end

/-- Where word `n` lies in its subcore's slice of a list. -/
theorem slice_place (n : S16384.Idx) :
    (Rect.unit (s := S16384) (k0_off1 (tileOf n)) S512.size (k0_off1_inb (tileOf n))).emb (placeOf n) = n := by
  have hn : (n 0).val < 16384 := (n 0).isLt
  funext a
  match a with
  | 0 =>
    refine Fin.ext ?_
    show (k0_off1 (tileOf n)) 0 + 1 * ((n 0).val % 512) = _
    rw [k0_off1_eq]
    show 1024 * ((n 0).val / 1024) + 512 * ((n 0).val / 512 % 2) + 1 * ((n 0).val % 512) = _
    omega

section
variable (d : Dev nD)
variable (f0 f1 : Buf (Elt Ideal) ((SparseCore.T d : Thread nD τ).loc main_arg0)) (TU TI : Buf (Elt Ideal) ((SparseCore.T d : Thread nD τ).loc main_arg2))
variable (fw : Buf (Elt Ideal) ((SparseCore.T d : Thread nD τ).loc main_v0)) (fb : Buf (Elt Ideal) ((SparseCore.T d : Thread nD τ).loc main_arg5))

/-- Word `n` of the kernel's result is the score of pair `n`. -/
theorem kernelOut_apply (n : S16384.Idx) :
    kernelOut (F := Ideal) d f0 f1 TU TI fw fb n = score (f0 n) (f1 n) TU TI (fun c => fw (weightAt c)) (fb only1) := by
  refine (tileResult_apply d (tileOf n) f0 f1 TU TI fw fb (placeOf n)).trans ?_
  have h0 : (listOf mUsers (tileOf n)).view.read (Elt Ideal) f0 (placeOf n) = f0 n := congrArg f0 (slice_place n)
  have h1 : (listOf mItems (tileOf n)).view.read (Elt Ideal) f1 (placeOf n) = f1 n := congrArg f1 (slice_place n)
  rw [h0, h1]
  rfl
end

/-! ## From the program's arguments -/

section
variable (m : (ℓ : Loc nD τ sig) → Buf (Elt Ideal) ℓ)

/-- Row `n` of a column. -/
def rowCol (n : S16384x1.Idx) : S16384.Idx := fun a => match a with | 0 => n 0

/-- Weight `c` of a row of weights. -/
def weightRow (c : Fin 128) : S1x128.Idx := fun a => match a with | 0 => ⟨0, by decide⟩ | 1 => c

theorem V1_weight (d : Dev nD) (c : Fin 128) : V1 m d w' (weightAt c) = m (d, a4') (weightRow c) := by
  show shapeCast S128 (m (d, a4')) shapeCasts_S1x128_S128 (weightAt c) = _
  refine (shapeCast_dropUnit_apply (n := 1) ![128] _ shapeCasts_S1x128_S128 (weightAt c)).trans ?_
  refine congrArg (m (d, a4')) (funext fun a => Fin.ext ?_)
  match a with
  | 0 => rfl
  | 1 => rfl

/-- The program's result at row `n`: the score of pair `n`. -/
theorem V3_result (d : Dev nD) (n : S16384x1.Idx) :
    V3 m d r' n = score (m (d, a0') (rowCol n)) (m (d, a1') (rowCol n)) (m (d, a2')) (m (d, a3'))
      (fun c => m (d, a4') (weightRow c)) (m (d, a5') only1) := by
  show shapeCast S16384x1 (V2 m d o') shapeCasts_S16384_S16384x1 n = _
  refine (shapeCast_apply _ shapeCasts_S16384_S16384x1 n (rowCol n) ?_).trans ?_
  · have h1 : (n 1).val < 1 := (n 1).isLt
    rw [Shape.rowMajor_val_one, Shape.rowMajor_val_two]
    show (n 0).val = (n 0).val * 1 + (n 1).val
    omega
  have ho : V2 m d o' = out m d := Function.update_self ..
  rw [ho]
  refine (kernelOut_apply d _ _ _ _ _ _ (rowCol n)).trans ?_
  have hw : (fun c => V1 m d w' (weightAt c)) = fun c => m (d, a4') (weightRow c) := funext (V1_weight m d)
  rw [hw, V1_of_ne m d a0' (by decide), V1_of_ne m d a1' (by decide), V1_of_ne m d a2' (by decide), V1_of_ne m d a3' (by decide),
    V1_of_ne m d a5' (by decide)]
end

end Cert.Gmf
end
-- ==== Proof.RefValue.lean ====
module
public import proofs.«01_k».proof.Proof.Gen.ReferenceIdeal.Run
public import Idealize.ShloMosaic.Lib.ReduceAll
public import Idealize.ShloMosaic.Lib.Affine
public import Idealize.ShloMosaic.Lib.WordCmp
public import Idealize.ShloMosaic.Lib.Routing.Ops
public import Idealize.ShloMosaic.Lib.StackMember
public import Idealize.ShloMosaic.Lib.ValueLayout

/-! The reference's result over the extended reals, row by row. -/

@[expose] public section
noncomputable section

namespace Cert.GmfRef

open Cert.ReferenceIdeal Cert.ReferenceIdeal.Gen
open Idealize.ShloMosaic Idealize.ShloMosaic.ValueIdx Idealize.ShloMosaic.StackMember

/-! ## The reference's operations, named -/

section
variable {F : FTy → Type} [FloatOps F]

/-- The rows an index list names, a negative index counted from the table's end. -/
def starts (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 100000#32))) x)

/-- Whether an index names a row. -/
def named (x : IVec S16384 32) : IVec S16384 1 :=
  Host.reduce IntOp.andi
    (andi (cmpi .sge (starts x) (broadcastInDim S16384x1 ![] bcast_S_S16384x1 (constantI S_ 32 0#32)))
      (cmpi .sle (starts x) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The rows taken from a table. -/
def taken (T : FVec F S100000x128 .f32) (x : IVec S16384 32) : FVec F S16384x128 .f32 :=
  select (broadcastInDim S16384x128 ![0] bcast_S16384_S16384x128_0 (named x))
    (Host.gather gather_S100000x128_S16384x1_S16384x128_1_0_n_n_0_1_1128 T (starts x))
    (broadcastInDim S16384x128 ![] bcast_S_S16384x128 (constant S_ .f32 0x7FC00000#32))

/-- The reference's result. -/
def scores (x y : IVec S16384 32) (TU TI : FVec F S100000x128 .f32) (W : FVec F S1x128 .f32) (b : FVec F S1 .f32) : FVec F S16384x1 .f32 :=
  addf (Host.dotGeneral dot_S16384x128_S128x1_S16384x1_1_0_0_1_n_n none (mulf (taken TU x) (taken TI y))
      (transpose S128x1 [1, 0] W transposes_S1x128_S128x1_1_0))
    (broadcastInDim S16384x1 ![0, 1] bcast_S1x1_S16384x1_0_1 (broadcastInDim S1x1 ![1] bcast_S1_S1x1_1 b))
end

/-! ## Read at a row -/

theorem select_of_one {s : Shape} {α : Type} (p : IVec s 1) (a b : s.Idx → α) (i : s.Idx) (h : p i = 1#1) : select p a b i = a i :=
  if_pos h

section
variable {x : IVec S16384 32} (hx : ∀ i, (x i).toNat < 100000)
include hx

theorem starts_apply (n : Fin 16384) : starts x (ix2 n (0 : Fin 1)) = x (ix1 n) := by
  have hn : (x (ix1 n)).toNat < 100000 := hx _
  refine (broadcastInDim_apply _ _ _ _ (ix1 n) (fun a => by match a with | 0 => rfl)).trans ?_
  show Scalar.select (IntOp.cmpi .slt (x (ix1 n)) 0#32) _ _ = _
  have h0 : IntOp.cmpi .slt (x (ix1 n)) 0#32 = 0#1 := by
    rw [WordCmp.cmpi_slt_zero, decide_eq_false (by omega)]
    rfl
  rw [h0]
  rfl

theorem named_apply (n : Fin 16384) : named x (ix1 n) = 1#1 := by
  refine Host.reduce_andi_one _ _ _ _ _ rfl fun i => ?_
  obtain ⟨a, c, rfl⟩ : ∃ (a : Fin 16384) (c : Fin 1), i = ix2 a c :=
    ⟨i 0, i 1, funext fun k => by match k with | 0 => rfl | 1 => rfl⟩
  obtain rfl : c = 0 := Subsingleton.elim _ _
  have e := starts_apply hx a
  have hn : (x (ix1 a)).toNat < 100000 := hx _
  show IntOp.andi (IntOp.cmpi .sge (starts x (ix2 a (0 : Fin 1))) 0#32) (IntOp.cmpi .sle (starts x (ix2 a (0 : Fin 1))) 99999#32) = 1#1
  rw [e]
  refine IntOp.andi_eq_one.2 ⟨IntOp.cmpi_sge.2 ?_, IntOp.cmpi_sle.2 ?_⟩
  · simp only [BitVec.toInt_eq_toNat_cond, BitVec.toNat_ofNat, Nat.reducePow, Nat.reduceMod]
    omega
  · simp only [BitVec.toInt_eq_toNat_cond, BitVec.toNat_ofNat, Nat.reducePow, Nat.reduceMod]
    omega

/-- A taken row is the table's row that the word names. -/
theorem taken_apply {F : FTy → Type} [FloatOps F] (T : FVec F S100000x128 .f32) (n : Fin 16384) (c : Fin 128) :
    taken T x (ix2 n c) = T (ix2 ⟨(x (ix1 n)).toNat, hx _⟩ c) := by
  have hm : broadcastInDim S16384x128 ![0] bcast_S16384_S16384x128_0 (named x) (ix2 n c) = 1#1 :=
    (broadcastInDim_apply _ _ _ _ (ix1 n) (fun a => by match a with | 0 => rfl)).trans (named_apply hx n)
  unfold taken
  rw [select_of_one _ _ _ _ hm]
  exact Routing.gather_row gather_S100000x128_S16384x1_S16384x128_1_0_n_n_0_1_1128 rfl rfl rfl rfl rfl T _ n c ⟨(x (ix1 n)).toNat, hx _⟩
    ((starts_apply hx n).trans (by rw [BitVec.ofNat_toNat, BitVec.setWidth_eq])) (by norm_num)

end

/-- The reference's result at row `n`. -/
theorem scores_apply {x y : IVec S16384 32} (hx : ∀ i, (x i).toNat < 100000) (hy : ∀ i, (y i).toNat < 100000)
    (TU TI : FVec Ideal S100000x128 .f32) (W : FVec Ideal S1x128 .f32) (b : FVec Ideal S1 .f32) (n : Fin 16384) :
    scores (F := Ideal) x y TU TI W b (ix2 n (0 : Fin 1))
      = (∑ c : Fin 128, TU (ix2 ⟨(x (ix1 n)).toNat, hx _⟩ c) * TI (ix2 ⟨(y (ix1 n)).toNat, hy _⟩ c) * W (ix2 (0 : Fin 1) c) : EReal)
          + b (ix1 (0 : Fin 1)) := by
  show FloatOps.addf (Host.dotGeneral (DotDims.plain 16384 128 1) none _ _ (ix2 n (0 : Fin 1))) _ = _
  rw [dotGeneral_plain_apply]
  refine congrArg₂ (fun p q : EReal => p + q) (Finset.sum_congr rfl fun c _ => ?_) ?_
  · rw [transpose_ix2_apply]
    show (taken TU x (ix2 n c) * taken TI y (ix2 n c)) * W (ix2 0 c) = _
    rw [taken_apply hx, taken_apply hy]
  · refine (broadcastInDim_apply _ _ _ _ (ix2 (0 : Fin 1) (0 : Fin 1)) (fun a => by match a with | 0 => rfl | 1 => rfl)).trans ?_
    exact broadcastInDim_apply _ _ _ _ (ix1 (0 : Fin 1)) (fun a => by match a with | 0 => rfl)

end Cert.GmfRef
end
-- ==== Proof.Equation.lean ====
module
public import proofs.«01_k».proof.Proof.Frames
public import proofs.«01_k».proof.Proof.KernelValue
public import proofs.«01_k».proof.Proof.RefValue

/-! The equation: over the extended reals the kernel's result is the reference's. -/

@[expose] public section
noncomputable section

namespace Cert.Gmf

open Idealize.ShloMosaic Idealize.ShloMosaic.TcCoe Idealize.ShloMosaic.ValueIdx
open Idealize.SL.Sem

/-- A word in range names its own row. -/
theorem rowOfWord_eq (x : BitVec 32) (h : x.toNat < 100000) (c : Fin 128) : rowOfWord x c = ix2 ⟨x.toNat, h⟩ c := by
  unfold rowOfWord
  funext a
  match a with
  | 0 => exact Fin.ext (Nat.mod_eq_of_lt h)
  | 1 => rfl

/-- Row by row the two programs' results are equal: the bias and the same 128 products. -/
theorem scores_eq_score {x y : IVec Cert.ReferenceIdeal.S16384 32} (hx : ∀ i, (x i).toNat < 100000) (hy : ∀ i, (y i).toNat < 100000)
    (TU TI : FVec Ideal Cert.ReferenceIdeal.S100000x128 .f32) (W : FVec Ideal Cert.ReferenceIdeal.S1x128 .f32)
    (b : FVec Ideal Cert.ReferenceIdeal.S1 .f32) (n : Cert.ReferenceIdeal.S16384x1.Idx) :
    Cert.GmfRef.scores (F := Ideal) x y TU TI W b n
      = score (x (rowCol n)) (y (rowCol n)) TU TI (fun c => W (weightRow c)) (b only1) := by
  obtain ⟨k, rfl⟩ : ∃ k : Fin 16384, n = ix2 k (0 : Fin 1) :=
    ⟨n 0, funext fun a => by match a with | 0 => rfl | 1 => exact Subsingleton.elim (α := Fin 1) _ _⟩
  refine (Cert.GmfRef.scores_apply hx hy TU TI W b k).trans ((add_comm _ _).trans ?_)
  have hn : rowCol (ix2 k (0 : Fin 1)) = ix1 k := funext fun a => by match a with | 0 => rfl
  have hb : only1 = ix1 (0 : Fin 1) := funext fun a => by match a with | 0 => rfl
  have hw (c : Fin 128) : weightRow c = ix2 (0 : Fin 1) c := funext fun a => by match a with | 0 => rfl | 1 => rfl
  unfold score
  rw [hn, hb]
  refine congrArg (_ + ·) (Finset.sum_congr rfl fun c _ => ?_)
  rw [rowOfWord_eq _ (hx _), rowOfWord_eq _ (hy _)]
  exact congrArg (fun z => _ * W z) (hw c).symm

theorem algebraic : Cert.algebraic_KernelIdeal_ReferenceIdeal := by
  intro m g m' g' hp hagree
  have hr := inRange_ideal hp
  refine ⟨fun c => V3 m c r',
    (θ_run Cert.KernelIdeal.defs _ _).mono (fun _ h c => ⟨h.1 c r' (by decide), args_kept h c⟩) (run_main (F := Ideal) m g hr), ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hagree c
  show Cert.GmfRef.scores (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) = V3 m c r'
  rw [h0, h1, h2, h3, h4, h5]
  funext n
  exact (scores_eq_score (hr c).1 (hr c).2 _ _ _ _ n).trans (V3_result m c n).symm

end Cert.Gmf
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_tables
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_tables.Gen.facts,
  Cert.Gmf.frame_kernel, Cert.Gmf.frame_kernelIdeal, Cert.Gmf.frame_reference,
  fun m ρ _ => Cert.Gmf.frame_reference m ρ trivial, trivial, Cert.Gmf.algebraic⟩

end Cert.Proof

end
